-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_contours_finite [hPre_contours_finite : Cert.Pre_contours_finite.Facts] (m : (ℓ : Loc Cert.KernelIdeal.nD Cert.KernelIdeal.τ Cert.KernelIdeal.sig) → Buf (Elt Ideal) ℓ) : Prop :=
  ∀ c : Dev Cert.KernelIdeal.nD,
    (Cert.Pre_contours_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_contours_finite [hPre_contours_finite : Cert.Pre_contours_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_contours_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_contours_finite [hKernelIdeal : Cert.KernelIdeal.Facts] [hPre_contours_finite : Cert.Pre_contours_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_contours_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_contours_finite [hReferenceIdeal : Cert.ReferenceIdeal.Facts] [hPre_contours_finite : Cert.Pre_contours_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_contours_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_contours_finite [hKernelIdeal : Cert.KernelIdeal.Facts] [hReferenceIdeal : Cert.ReferenceIdeal.Facts] [hPre_contours_finite : Cert.Pre_contours_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_contours_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_contours_finite : Cert.Pre_contours_finite.Facts),
    quiescent_Kernel (hKernel := hKernel)
    ∧ quiescent_KernelIdeal (hKernelIdeal := hKernelIdeal)
    ∧ quiescent_KernelIdeal_pre_contours_finite (hKernelIdeal := hKernelIdeal) (hPre_contours_finite := hPre_contours_finite)
    ∧ quiescent_ReferenceIdeal (hReferenceIdeal := hReferenceIdeal)
    ∧ quiescent_ReferenceIdeal_pre_contours_finite (hReferenceIdeal := hReferenceIdeal) (hPre_contours_finite := hPre_contours_finite)
    ∧ preserves_Kernel_KernelIdeal
    ∧ algebraic_KernelIdeal_ReferenceIdeal_pre_contours_finite (hKernelIdeal := hKernelIdeal) (hReferenceIdeal := hReferenceIdeal) (hPre_contours_finite := hPre_contours_finite)
-- ==== Pre_contours_finite.lean ====
abbrev S64x1x512x512 : Shape := ⟨4, ![64, 1, 512, 512]⟩
abbrev S64x512x2 : Shape := ⟨3, ![64, 512, 2]⟩
abbrev S_ : Shape := ⟨0, ![]⟩

class Facts : Prop where
  bcast_S_S64x512x2 : S_.BroadcastsInDim S64x512x2 (![] : Fin 0 → Fin S64x512x2.rank)
  reducesTo_S64x512x2_S_d0_1_2 : S64x512x2.ReducesTo [0, 1, 2] S_
  h_S_ : 0 < S_.numel

variable [Facts]

def fn_part1 {F : FTy → Type} [FloatOps F] (main_v13 : IVec S_ 1) (main_v16 : IVec S64x512x2 1) : IVec S_ 1 :=
  let main_c_5 : IVec S_ 1 := constantI S_ 1 1#1
  let main_v17 : IVec S_ 1 := (fun x v => Host.reduce IntOp.andi x v reducesTo_S64x512x2_S_d0_1_2 h_S_) main_v16 main_c_5
  let main_v18 : IVec S_ 1 := andi main_v13 main_v17
  main_v18

def fn {F : FTy → Type} [FloatOps F] (main_arg0 : FVec F S64x1x512x512 .f32) (main_arg1 : FVec F S64x512x2 .f32) (main_arg2 : FVec F S64x512x2 .f32) (main_arg3 : FVec F S64x512x2 .f32) (main_arg4 : FVec F S64x1x512x512 .f32) (main_arg5 : FVec F S64x512x2 .f32) (main_arg6 : FVec F S64x1x512x512 .f32) : IVec S_ 1 :=
  let main_v0 : FVec F S64x512x2 .f32 := Host.absf main_arg1
  let main_cst : FVec F S_ .f32 := constant S_ .f32 0x7F800000#32
  let main_v1 : FVec F S64x512x2 .f32 := broadcastInDim S64x512x2 ![] bcast_S_S64x512x2 main_cst
  let main_v2 : IVec S64x512x2 1 := cmpf .olt main_v0 main_v1
  let main_c : IVec S_ 1 := constantI S_ 1 1#1
  let main_v3 : IVec S_ 1 := (fun x v => Host.reduce IntOp.andi x v reducesTo_S64x512x2_S_d0_1_2 h_S_) main_v2 main_c
  let main_v4 : FVec F S64x512x2 .f32 := Host.absf main_arg2
  let main_cst_0 : FVec F S_ .f32 := constant S_ .f32 0x7F800000#32
  let main_v5 : FVec F S64x512x2 .f32 := broadcastInDim S64x512x2 ![] bcast_S_S64x512x2 main_cst_0
  let main_v6 : IVec S64x512x2 1 := cmpf .olt main_v4 main_v5
  let main_c_1 : IVec S_ 1 := constantI S_ 1 1#1
  let main_v7 : IVec S_ 1 := (fun x v => Host.reduce IntOp.andi x v reducesTo_S64x512x2_S_d0_1_2 h_S_) main_v6 main_c_1
  let main_v8 : IVec S_ 1 := andi main_v3 main_v7
  let main_v9 : FVec F S64x512x2 .f32 := Host.absf main_arg3
  let main_cst_2 : FVec F S_ .f32 := constant S_ .f32 0x7F800000#32
  let main_v10 : FVec F S64x512x2 .f32 := broadcastInDim S64x512x2 ![] bcast_S_S64x512x2 main_cst_2
  let main_v11 : IVec S64x512x2 1 := cmpf .olt main_v9 main_v10
  let main_c_3 : IVec S_ 1 := constantI S_ 1 1#1
  let main_v12 : IVec S_ 1 := (fun x v => Host.reduce IntOp.andi x v reducesTo_S64x512x2_S_d0_1_2 h_S_) main_v11 main_c_3
  let main_v13 : IVec S_ 1 := andi main_v8 main_v12
  let main_v14 : FVec F S64x512x2 .f32 := Host.absf main_arg5
  let main_cst_4 : FVec F S_ .f32 := constant S_ .f32 0x7F800000#32
  let main_v15 : FVec F S64x512x2 .f32 := broadcastInDim S64x512x2 ![] bcast_S_S64x512x2 main_cst_4
  let main_v16 : IVec S64x512x2 1 := cmpf .olt main_v14 main_v15
  fn_part1 (F := F) main_v13 main_v16
-- ==== Kernel.lean ====
abbrev S64x1x512x512 : Shape := ⟨4, ![64, 1, 512, 512]⟩
abbrev S64x512x2 : Shape := ⟨3, ![64, 512, 2]⟩
abbrev S32768x512 : Shape := ⟨2, ![32768, 512]⟩
abbrev S2x8x512 : Shape := ⟨3, ![2, 8, 512]⟩
abbrev S1024x512 : Shape := ⟨2, ![1024, 512]⟩
abbrev S1x8x512 : Shape := ⟨3, ![1, 8, 512]⟩
abbrev S512 : Shape := ⟨1, ![512]⟩
abbrev S1x512 : Shape := ⟨2, ![1, 512]⟩
abbrev S3x512 : Shape := ⟨2, ![3, 512]⟩
abbrev S8x512 : Shape := ⟨2, ![8, 512]⟩
abbrev S1x64x512x2 : Shape := ⟨4, ![1, 64, 512, 2]⟩
abbrev S2x64x512x2 : Shape := ⟨4, ![2, 64, 512, 2]⟩
abbrev S2x2x64x512 : Shape := ⟨4, ![2, 2, 64, 512]⟩
abbrev S256x512 : Shape := ⟨2, ![256, 512]⟩
abbrev S2x2x64x4x128 : Shape := ⟨5, ![2, 2, 64, 4, 128]⟩
abbrev S4x2x2x64x128 : Shape := ⟨5, ![4, 2, 2, 64, 128]⟩
abbrev S1024x128 : Shape := ⟨2, ![1024, 128]⟩
abbrev S1x1 : Shape := ⟨2, ![1, 1]⟩
abbrev S1024x1 : Shape := ⟨2, ![1024, 1]⟩
abbrev S4x256x512 : Shape := ⟨3, ![4, 256, 512]⟩
abbrev S1x256x512 : Shape := ⟨3, ![1, 256, 512]⟩
abbrev S64x512 : Shape := ⟨2, ![64, 512]⟩
abbrev S64 : Shape := ⟨1, ![64]⟩
abbrev S64x1 : Shape := ⟨2, ![64, 1]⟩
abbrev S256 : Shape := ⟨1, ![256]⟩
abbrev S256x1 : Shape := ⟨2, ![256, 1]⟩
abbrev S1024 : Shape := ⟨1, ![1024]⟩
abbrev S1x64x1 : Shape := ⟨3, ![1, 64, 1]⟩
abbrev S1 : Shape := ⟨1, ![1]⟩
abbrev S1x1x1 : Shape := ⟨3, ![1, 1, 1]⟩
abbrev S1x1x512 : Shape := ⟨3, ![1, 1, 512]⟩
abbrev S_ : Shape := ⟨0, ![]⟩

abbrev nBuf : Space → Nat
  | .hbm => 25
  | .vmem => 15
  | .smem => 0
  | _ => 0

abbrev bufTy : (tb : Table) → Fin (tcTables nBuf tb) → BufTy
  | .hbm, ⟨0, _⟩ => ⟨S64x1x512x512, .f32⟩
  | .hbm, ⟨1, _⟩ => ⟨S64x512x2, .f32⟩
  | .hbm, ⟨2, _⟩ => ⟨S64x512x2, .f32⟩
  | .hbm, ⟨3, _⟩ => ⟨S64x512x2, .f32⟩
  | .hbm, ⟨4, _⟩ => ⟨S64x1x512x512, .f32⟩
  | .hbm, ⟨5, _⟩ => ⟨S64x512x2, .f32⟩
  | .hbm, ⟨6, _⟩ => ⟨S64x1x512x512, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S2x8x512, .f32⟩
  | .hbm, ⟨11, _⟩ => ⟨S1x64x512x2, .f32⟩
  | .hbm, ⟨12, _⟩ => ⟨S1x64x512x2, .f32⟩
  | .hbm, ⟨13, _⟩ => ⟨S2x64x512x2, .f32⟩
  | .hbm, ⟨14, _⟩ => ⟨S1x64x512x2, .f32⟩
  | .hbm, ⟨15, _⟩ => ⟨S1x64x512x2, .f32⟩
  | .hbm, ⟨16, _⟩ => ⟨S2x64x512x2, .f32⟩
  | .hbm, ⟨17, _⟩ => ⟨S2x2x64x512, .f32⟩
  | .hbm, ⟨18, _⟩ => ⟨S256x512, .f32⟩
  | .hbm, ⟨19, _⟩ => ⟨S2x2x64x512, .f32⟩
  | .hbm, ⟨20, _⟩ => ⟨S2x2x64x4x128, .f32⟩
  | .hbm, ⟨21, _⟩ => ⟨S4x2x2x64x128, .f32⟩
  | .hbm, ⟨22, _⟩ => ⟨S1024x128, .f32⟩
  | .hbm, ⟨23, _⟩ => ⟨S1x1, .f32⟩
  | .hbm, ⟨24, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x8x512, .f32⟩
  | .local _ .vmem, ⟨7, _⟩ => ⟨S1x8x512, .f32⟩
  | .local _ .vmem, ⟨8, _⟩ => ⟨S256x512, .f32⟩
  | .local _ .vmem, ⟨9, _⟩ => ⟨S1024x128, .f32⟩
  | .local _ .vmem, ⟨10, _⟩ => ⟨S2x8x512, .f32⟩
  | .local _ .vmem, ⟨11, _⟩ => ⟨S1x1, .f32⟩
  | .local _ .vmem, ⟨12, _⟩ => ⟨S1024x512, .f32⟩
  | .local _ .vmem, ⟨13, _⟩ => ⟨S256x512, .f32⟩
  | .local _ .vmem, ⟨14, _⟩ => ⟨S1024x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_10 : BitVec 32 := 0#32
  let v23 : BitVec 1 := Scalar.cmpi .ne v22 c0_i32_10
  v23

def k0_cond2 (i : grid0.Coords) : BitVec 1 :=
  let arg1 : BitVec 32 := BitVec.ofNat 32 (i 1).val
  let c0_i32_11 : BitVec 32 := 0#32
  let v24 : BitVec 1 := Scalar.cmpi .ne arg1 c0_i32_11
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := .none

@[reducible] def k1_t1_loop : Scf.Loop 32 :=
  let c0_i32 : BitVec 32 := 0#32
  let c128_i32_12 : BitVec 32 := 128#32
  let v27 : BitVec 32 := Scalar.addi c0_i32 c128_i32_12
  let c1_i32_13 : BitVec 32 := 1#32
  ⟨c0_i32, v27, c1_i32_13⟩
abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S64x1x512x512 : Shape := ⟨4, ![64, 1, 512, 512]⟩
abbrev S64x512x2 : Shape := ⟨3, ![64, 512, 2]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩
abbrev S64x512x512x2 : Shape := ⟨4, ![64, 512, 512, 2]⟩
abbrev S64x1x512x2 : Shape := ⟨4, ![64, 1, 512, 2]⟩
abbrev S64x512 : Shape := ⟨2, ![64, 512]⟩
abbrev S64 : Shape := ⟨1, ![64]⟩
abbrev S16777216 : Shape := ⟨1, ![16777216]⟩

abbrev nBuf : Space → Nat
  | .hbm => 158
  | .vmem => 0
  | .smem => 0
  | _ => 0

abbrev hbmTy0_0 (i : Nat) : BufTy := match i % 128 with
  | 0 => ⟨S64x1x512x512, .f32⟩
  | 1 => ⟨S64x512x2, .f32⟩
  | 2 => ⟨S64x512x2, .f32⟩
  | 3 => ⟨S64x512x2, .f32⟩
  | 4 => ⟨S64x1x512x512, .f32⟩
  | 5 => ⟨S64x512x2, .f32⟩
  | 6 => ⟨S64x1x512x512, .f32⟩
  | 7 => ⟨S512, .i32⟩
  | 8 => ⟨S1x512, .i32⟩
  | 9 => ⟨S512, .i32⟩
  | 10 => ⟨S512x1, .i32⟩
  | 11 => ⟨S512x512, .i32⟩
  | 12 => ⟨S512x512, .i32⟩
  | 13 => ⟨S512x512, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S512x512, .i32⟩
  | 21 => ⟨S512x512, .i32⟩
  | 22 => ⟨S_, .i32⟩
  | 23 => ⟨S512x512, .i32⟩
  | 24 => ⟨S512x512, .i1⟩
  | 25 => ⟨S_, .i32⟩
  | 26 => ⟨S512x512, .i32⟩
  | 27 => ⟨S512x512, .i1⟩
  | 28 => ⟨S_, .i32⟩
  | 29 => ⟨S_, .i1⟩
  | 30 => ⟨S512x512, .i1⟩
  | 31 => ⟨S512x512, .i1⟩
  | 32 => ⟨S512x512, .i1⟩
  | 33 => ⟨S512x512, .i32⟩
  | 34 => ⟨S512x512, .i32⟩
  | 35 => ⟨S512x512, .i32⟩
  | 36 => ⟨S_, .i32⟩
  | 37 => ⟨S512x512, .i32⟩
  | 38 => ⟨S512x512, .i1⟩
  | 39 => ⟨S_, .i32⟩
  | 40 => ⟨S512x512, .i32⟩
  | 41 => ⟨S512x512, .i32⟩
  | 42 => ⟨S512x512, .i32⟩
  | 43 => ⟨S512x512x1, .i32⟩
  | 44 => ⟨S64x512x512x2, .f32⟩
  | 45 => ⟨S64x1x512x2, .f32⟩
  | 46 => ⟨S64x512x512x2, .f32⟩
  | 47 => ⟨S64x512x512x2, .f32⟩
  | 48 => ⟨S64x512x512x2, .f32⟩
  | 49 => ⟨S_, .f32⟩
  | 50 => ⟨S64x512, .f32⟩
  | 51 => ⟨S_, .f32⟩
  | 52 => ⟨S64x512, .f32⟩
  | 53 => ⟨S64x512, .f32⟩
  | 54 => ⟨S_, .f32⟩
  | 55 => ⟨S64, .f32⟩
  | 56 => ⟨S_, .f32⟩
  | 57 => ⟨S_, .f32⟩
  | 58 => ⟨S_, .f32⟩
  | 59 => ⟨S_, .f32⟩
  | 60 => ⟨S512, .i32⟩
  | 61 => ⟨S1x512, .i32⟩
  | 62 => ⟨S512, .i32⟩
  | 63 => ⟨S512x1, .i32⟩
  | 64 => ⟨S512x512, .i32⟩
  | 65 => ⟨S512x512, .i32⟩
  | 66 => ⟨S512x512, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S512x512, .i32⟩
  | 74 => ⟨S512x512, .i32⟩
  | 75 => ⟨S_, .i32⟩
  | 76 => ⟨S512x512, .i32⟩
  | 77 => ⟨S512x512, .i1⟩
  | 78 => ⟨S_, .i32⟩
  | 79 => ⟨S512x512, .i32⟩
  | 80 => ⟨S512x512, .i1⟩
  | 81 => ⟨S_, .i32⟩
  | 82 => ⟨S_, .i1⟩
  | 83 => ⟨S512x512, .i1⟩
  | 84 => ⟨S512x512, .i1⟩
  | 85 => ⟨S512x512, .i1⟩
  | 86 => ⟨S512x512, .i32⟩
  | 87 => ⟨S512x512, .i32⟩
  | 88 => ⟨S512x512, .i32⟩
  | 89 => ⟨S_, .i32⟩
  | 90 => ⟨S512x512, .i32⟩
  | 91 => ⟨S512x512, .i1⟩
  | 92 => ⟨S_, .i32⟩
  | 93 => ⟨S512x512, .i32⟩
  | 94 => ⟨S512x512, .i32⟩
  | 95 => ⟨S512x512, .i32⟩
  | 96 => ⟨S512x512x1, .i32⟩
  | 97 => ⟨S64x512x512x2, .f32⟩
  | 98 => ⟨S64x1x512x2, .f32⟩
  | 99 => ⟨S64x512x512x2, .f32⟩
  | 100 => ⟨S64x512x512x2, .f32⟩
  | 101 => ⟨S64x512x512x2, .f32⟩
  | 102 => ⟨S_, .f32⟩
  | 103 => ⟨S64x512, .f32⟩
  | 104 => ⟨S_, .f32⟩
  | 105 => ⟨S64x512, .f32⟩
  | 106 => ⟨S64x512, .f32⟩
  | 107 => ⟨S_, .f32⟩
  | 108 => ⟨S64, .f32⟩
  | 109 => ⟨S_, .f32⟩
  | 110 => ⟨S_, .f32⟩
  | 111 => ⟨S_, .f32⟩
  | 112 => ⟨S_, .f32⟩
  | 113 => ⟨S16777216, .f32⟩
  | 114 => ⟨S16777216, .f32⟩
  | 115 => ⟨S16777216, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x1x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S16777216, .f32⟩
  | 8 => ⟨S16777216, .f32⟩
  | 9 => ⟨S16777216, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S64x1x512x512, .f32⟩

abbrev hbmTy (i : Nat) : BufTy := match i / 128 with
  | 0 => hbmTy0_0 i
  | 1 => hbmTy0_1 i
  | _ => ⟨S64x1x512x512, .f32⟩

abbrev bufTy : (tb : Table) → Fin (tcTables nBuf tb) → BufTy
  | .hbm, ⟨i, _⟩ => hbmTy i
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_6 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_v5 : Ref sig .tc := ⟨.hbm, 76, rfl⟩
abbrev main_call1_v6 : Ref sig .tc := ⟨.hbm, 77, rfl⟩
abbrev main_call1_c_2 : Ref sig .tc := ⟨.hbm, 78, rfl⟩
abbrev main_call1_v7 : Ref sig .tc := ⟨.hbm, 79, rfl⟩
abbrev main_call1_v8 : Ref sig .tc := ⟨.hbm, 80, rfl⟩
abbrev main_call1_c_3 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_v32 : Ref sig .tc := ⟨.hbm, 88, rfl⟩
abbrev main_c_7 : Ref sig .tc := ⟨.hbm, 89, rfl⟩
abbrev main_v33 : Ref sig .tc := ⟨.hbm, 90, rfl⟩
abbrev main_v34 : Ref sig .tc := ⟨.hbm, 91, rfl⟩
abbrev main_c_8 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_9 : Ref sig .tc := ⟨.hbm, 102, rfl⟩
abbrev main_v44 : Ref sig .tc := ⟨.hbm, 103, rfl⟩
abbrev main_cst_10 : Ref sig .tc := ⟨.hbm, 104, rfl⟩
abbrev main_v45 : Ref sig .tc := ⟨.hbm, 105, rfl⟩
abbrev main_v46 : Ref sig .tc := ⟨.hbm, 106, rfl⟩
abbrev main_cst_11 : Ref sig .tc := ⟨.hbm, 107, rfl⟩
abbrev main_v47 : Ref sig .tc := ⟨.hbm, 108, rfl⟩
abbrev main_cst_12 : Ref sig .tc := ⟨.hbm, 109, rfl⟩
abbrev main_v48 : Ref sig .tc := ⟨.hbm, 110, rfl⟩
abbrev main_cst_13 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_cst_14 : Ref sig .tc := ⟨.hbm, 116, rfl⟩
abbrev main_v53 : Ref sig .tc := ⟨.hbm, 117, rfl⟩
abbrev main_cst_15 : Ref sig .tc := ⟨.hbm, 118, rfl⟩
abbrev main_v54 : Ref sig .tc := ⟨.hbm, 119, rfl⟩
abbrev main_cst_16 : Ref sig .tc := ⟨.hbm, 120, rfl⟩
abbrev main_v55 : Ref sig .tc := ⟨.hbm, 121, rfl⟩
abbrev main_cst_17 : Ref sig .tc := ⟨.hbm, 122, rfl⟩
abbrev main_v56 : Ref sig .tc := ⟨.hbm, 123, rfl⟩
abbrev main_cst_18 : Ref sig .tc := ⟨.hbm, 124, rfl⟩
abbrev main_v57 : Ref sig .tc := ⟨.hbm, 125, rfl⟩
abbrev main_v58 : Ref sig .tc := ⟨.hbm, 126, rfl⟩
abbrev main_cst_19 : Ref sig .tc := ⟨.hbm, 127, rfl⟩
abbrev main_v59 : Ref sig .tc := ⟨.hbm, 128, rfl⟩
abbrev main_v60 : Ref sig .tc := ⟨.hbm, 129, rfl⟩
abbrev main_cst_20 : Ref sig .tc := ⟨.hbm, 130, rfl⟩
abbrev main_v61 : Ref sig .tc := ⟨.hbm, 131, rfl⟩
abbrev main_v62 : Ref sig .tc := ⟨.hbm, 132, rfl⟩
abbrev main_cst_21 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_22 : Ref sig .tc := ⟨.hbm, 138, rfl⟩
abbrev main_v67 : Ref sig .tc := ⟨.hbm, 139, rfl⟩
abbrev main_cst_23 : Ref sig .tc := ⟨.hbm, 140, rfl⟩
abbrev main_v68 : Ref sig .tc := ⟨.hbm, 141, rfl⟩
abbrev main_cst_24 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_cst_26 : Ref sig .tc := ⟨.hbm, 146, rfl⟩
abbrev main_v71 : Ref sig .tc := ⟨.hbm, 147, rfl⟩
abbrev main_v72 : Ref sig .tc := ⟨.hbm, 148, rfl⟩
abbrev main_cst_27 : Ref sig .tc := ⟨.hbm, 149, rfl⟩
abbrev main_v73 : Ref sig .tc := ⟨.hbm, 150, rfl⟩
abbrev main_v74 : Ref sig .tc := ⟨.hbm, 151, rfl⟩
abbrev main_cst_28 : Ref sig .tc := ⟨.hbm, 152, rfl⟩
abbrev main_v75 : Ref sig .tc := ⟨.hbm, 153, rfl⟩
abbrev main_v76 : Ref sig .tc := ⟨.hbm, 154, rfl⟩
abbrev main_cst_29 : Ref sig .tc := ⟨.hbm, 155, rfl⟩
abbrev main_v77 : Ref sig .tc := ⟨.hbm, 156, rfl⟩
abbrev main_v78 : Ref sig .tc := ⟨.hbm, 157, rfl⟩

abbrev nD : Nat := 1
abbrev τ : Topo := Topo.v7x

variable {F : FTy → Type} [FloatOps F]
-- ==== Proof.KernelIdeal.Mask.lean ====
/-
# The mask region

The first `pallas_call` (grid 2 × 16): the body at the first point of a run of sixteen stores its block of column
sums, at every other point it adds to the block. Stated at a parameter `V`, the buffer contents on entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the mask region's array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The condition under which the body stores its block: the inner grid coordinate is zero. -/
abbrev cond0_0 (i : grid0.Coords) : Prop := k0_cond1 i = 1#1
/-- It holds at the first point of each run of sixteen. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition under which the body adds to what is there: the inner grid coordinate is not zero. -/
abbrev cond0_1 (i : grid0.Coords) : Prop := k0_cond2 i = 1#1
/-- It holds at every other point. -/
theorem hcond0_1 : ∀ t : Fin cfg0.N, cond0_1 (grid0.coords t) ↔ 1 ≤ t.val % 16 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ 1 ≤ t.val % 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- At which positions the output's staging buffer holds nothing stored yet: the starts of the two runs. -/
def freshTab0_3 : ℕ → Bool
  | 0 => true
  | n + 1 => (0x80008000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
theorem liveAt0_3_A : ∀ t : Fin cfg0.N, cond0_0 (grid0.coords t) → ¬cond0_1 (grid0.coords t) → cfg0.idle 3 (grid0.coords t) = false := by decide +kernel
theorem liveAt0_3_B : ∀ t : Fin cfg0.N, ¬cond0_0 (grid0.coords t) → cond0_1 (grid0.coords t) → cfg0.idle 3 (grid0.coords t) = false := by decide +kernel
theorem notFresh0_3_B : ∀ t : Fin cfg0.N, ¬cond0_0 (grid0.coords t) → cond0_1 (grid0.coords t) → cfg0.fresh 3 t.val = false := by
  intro t; rw [fresh0_3_eq t]; revert t; decide +kernel

abbrev VO0_3 : View sig .tc .vmem S1x8x512 .f32 := (Memref.whole cc0_stg3_0 : Memref sig .tc .vmem S1x8x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x512 .f32 := win0_3.stage (cfg0.slots t 3)
abbrev hs0_3 (t : Fin cfg0.N) : (ms0_3 t).IsWhole := hstage0_3 ((cfg0.slots t 3).cast nbuf0_3)

set_option maxHeartbeats 1000000 in
/-- The mask kernel's body at the first point of a run, with the pieces it stores. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : cond0_0 i) (hc1 : ¬cond0_1 i)
    (x0 : Vec F S1024x512 .f32) (x1 : Vec F S1024x512 .f32) (x2 : Vec F S1024x512 .f32) :
    { L3 : List (View.Piece (Elt F) S1x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The mask kernel's body at the other points of a run, with the pieces it stores. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : ¬cond0_0 i) (hc1 : cond0_1 i)
    (x0 : Vec F S1024x512 .f32) (x1 : Vec F S1024x512 .f32) (x2 : Vec F S1024x512 .f32) (xo3 : Vec F S1x8x512 .f32) :
    { L3 : List (View.Piece (Elt F) S1x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__mask_kernel i arg2 harg2 arg3 harg3 arg4 harg4 arg5 harg5) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The pieces stored at a first point cover the output block. -/
theorem cover0_A_3 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : cond0_0 i) (hc1 : ¬cond0_1 i)
    (x0 : Vec F S1024x512 .f32) (x1 : Vec F S1024x512 .f32) (x2 : Vec F S1024x512 .f32) (y : S1x8x512.Idx) :
    ∃ pc ∈ (kernelRun0_A c i arg2 harg2 arg3 harg3 arg4 harg4 arg5 harg5 hc0 hc1 x0 x1 x2).1, y ∈ pc.1.set :=
  View.cover_of_tiledL (kernelRun0_A c i arg2 harg2 arg3 harg3 arg4 harg4 arg5 harg5 hc0 hc1 x0 x1 x2).1 S1x8x512.size (by sl_kernel_rfl) y

/-- The output block after a first point. -/
def out0_A_3 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : cond0_0 i) (hc1 : ¬cond0_1 i)
    (x0 : Vec F S1024x512 .f32) (x1 : Vec F S1024x512 .f32) (x2 : Vec F S1024x512 .f32) : Vec F S1x8x512 .f32 :=
  VO0_3.read (Elt F) (VO0_3.writes (Elt F) VO0_3.junk (kernelRun0_A c i arg2 harg2 arg3 harg3 arg4 harg4 arg5 harg5 hc0 hc1 x0 x1 x2).1)

/-- The pieces stored at any other point cover the output block. -/
theorem cover0_B_3 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : ¬cond0_0 i) (hc1 : cond0_1 i)
    (x0 : Vec F S1024x512 .f32) (x1 : Vec F S1024x512 .f32) (x2 : Vec F S1024x512 .f32) (xo3 : Vec F S1x8x512 .f32) (y : S1x8x512.Idx) :
    ∃ pc ∈ (kernelRun0_B c i arg2 harg2 arg3 harg3 arg4 harg4 arg5 harg5 hc0 hc1 x0 x1 x2 xo3).1, y ∈ pc.1.set :=
  View.cover_of_tiledL (kernelRun0_B c i arg2 harg2 arg3 harg3 arg4 harg4 arg5 harg5 hc0 hc1 x0 x1 x2 xo3).1 S1x8x512.size (by sl_kernel_rfl) y

/-- The output block after any other point, from what it held before. -/
def out0_B_3 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : ¬cond0_0 i) (hc1 : cond0_1 i)
    (x0 : Vec F S1024x512 .f32) (x1 : Vec F S1024x512 .f32) (x2 : Vec F S1024x512 .f32) (xo3 : Vec F S1x8x512 .f32) : Vec F S1x8x512 .f32 :=
  VO0_3.read (Elt F) (VO0_3.writes (Elt F) VO0_3.junk (kernelRun0_B c i arg2 harg2 arg3 harg3 arg4 harg4 arg5 harg5 hc0 hc1 x0 x1 x2 xo3).1)

/-- The output block after each point, by recursion on the point. -/
def outsAt0 (c : Dev nD) : (n : ℕ) → n < cfg0.N → Vec F S1x8x512 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 16 = 0 then
      if h1 : 1 ≤ (n + 1) % 16 then
        False.elim (by have hN : n + 1 < 32 := lt_of_lt_of_eq hn (show cfg0.N = 32 from N_0); omega)
      else
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : 1 ≤ (n + 1) % 16 then
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn))
      else
        False.elim (by have hN : n + 1 < 32 := lt_of_lt_of_eq hn (show cfg0.N = 32 from N_0); omega)

theorem outsAt0_A (c : Dev nD) (t : Fin cfg0.N) (h0 : t.val % 16 = 0) (h1 : ¬1 ≤ t.val % 16) :
    outsAt0 V c t.val t.isLt = out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : 1 ≤ t.val % 16) :
    outsAt0 V c t.val t.isLt = out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The mask region's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The output window is idle at no point. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 32 := lt_of_lt_of_eq t.isLt (show cfg0.N = 32 from N_0)
  rw [after0_3, after0_3]
  by_cases h0 : t.val % 16 = 0
  · by_cases h1 : 1 ≤ t.val % 16
    · exfalso; omega
    · rw [liveAt0_3_A t ((hcond0_0 t).mpr h0) (fun h => h1 ((hcond0_1 t).mp h))] at hi
      exact absurd hi Bool.false_ne_true
  · by_cases h1 : 1 ≤ t.val % 16
    · rw [liveAt0_3_B t (fun h => h0 ((hcond0_0 t).mp h)) ((hcond0_1 t).mpr h1)] at hi
      exact absurd hi Bool.false_ne_true
    · exfalso; omega
/-- At a later point of a run the staging buffer holds what the point before left. -/
theorem before0_3_B (c : Dev nD) (t : Fin cfg0.N) (h0 : ¬t.val % 16 = 0) (h1 : 1 ≤ t.val % 16) (d) :
    (dat0 V c).before 3 t d = (outsAt0 V c (t.val - 1) (Nat.lt_of_le_of_lt (Nat.sub_le _ _) t.isLt)) := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-- What the mask body is called with, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The mask body is correct at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 32 := lt_of_lt_of_eq t.isLt (show cfg0.N = 32 from N_0)
  by_cases h0 : t.val % 16 = 0
  · by_cases h1 : 1 ≤ t.val % 16
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_3
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t) (iblk0 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _)
  · by_cases h1 : 1 ≤ t.val % 16
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_3
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) (iblk0 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

/-- The mask region's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.Corr.lean ====
/-
# The correlation region

The second `pallas_call` (one grid point): three scratch buffers, a loop of 128 trips, one output element.
Stated at a parameter `V`, the buffer contents on entry.
-/
module

public import proofs.«01_k».proof.Proof.KernelIdeal.Mask
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the correlation region's arrays (one grid point: the whole array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev VO1_3 : View sig .tc .vmem S1x1 .f32 := (Memref.whole cc1_stg3_0 : Memref sig .tc .vmem S1x1 .f32).view
abbrev ms1_0 (t : Fin cfg1.N) : Memref sig .tc .vmem S256x512 .f32 := win1_0.stage (cfg1.slots t 0)
abbrev hs1_0 (t : Fin cfg1.N) : (ms1_0 t).IsWhole := hstage1_0 0
abbrev ms1_1 (t : Fin cfg1.N) : Memref sig .tc .vmem S1024x128 .f32 := win1_1.stage (cfg1.slots t 1)
abbrev hs1_1 (t : Fin cfg1.N) : (ms1_1 t).IsWhole := hstage1_1 0
abbrev ms1_2 (t : Fin cfg1.N) : Memref sig .tc .vmem S2x8x512 .f32 := win1_2.stage (cfg1.slots t 2)
abbrev hs1_2 (t : Fin cfg1.N) : (ms1_2 t).IsWhole := hstage1_2 0
abbrev ms1_3 (t : Fin cfg1.N) : Memref sig .tc .vmem S1x1 .f32 := win1_3.stage (cfg1.slots t 3)
abbrev hs1_3 (t : Fin cfg1.N) : (ms1_3 t).IsWhole := hstage1_3 0
abbrev scM1_0 : Memref sig .tc .vmem S1024x512 .f32 := Memref.whole cc1_scratch0
abbrev scM1_1 : Memref sig .tc .vmem S256x512 .f32 := Memref.whole cc1_scratch1
abbrev scM1_2 : Memref sig .tc .vmem S1024x128 .f32 := Memref.whole cc1_scratch2

/-- The region's invariant with the three scratch buffers owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

set_option maxHeartbeats 1000000 in
/-- The correlation kernel's body, with the piece it stores. -/
noncomputable def kernelRun1_A (c : Dev nD) (arg0 : Memref sig .tc .vmem S256x512 .f32) (harg0 : arg0.IsWhole) (arg1 : Memref sig .tc .vmem S1024x128 .f32) (harg1 : arg1.IsWhole) (arg2 : Memref sig .tc .vmem S2x8x512 .f32) (harg2 : arg2.IsWhole) (arg3 : Memref sig .tc .vmem S1x1 .f32) (harg3 : arg3.IsWhole) (arg4 : Memref sig .tc .vmem S1024x512 .f32) (harg4 : arg4.IsWhole) (arg5 : Memref sig .tc .vmem S256x512 .f32) (harg5 : arg5.IsWhole) (arg6 : Memref sig .tc .vmem S1024x128 .f32) (harg6 : arg6.IsWhole)
    (x0 : Vec F S256x512 .f32) (x1 : Vec F S1024x128 .f32) (x2 : Vec F S2x8x512 .f32) :
    { L3 : List (View.Piece (Elt F) S1x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc1__corr_kernel arg0 harg0 arg1 harg1 arg2 harg2 arg3 harg3 arg4 harg4 arg5 harg5 arg6 harg6) K } := by
  refine ⟨?_, fun E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The piece stored covers the one-element output. -/
theorem cover1_A_3 (c : Dev nD) (arg0 : Memref sig .tc .vmem S256x512 .f32) (harg0 : arg0.IsWhole) (arg1 : Memref sig .tc .vmem S1024x128 .f32) (harg1 : arg1.IsWhole) (arg2 : Memref sig .tc .vmem S2x8x512 .f32) (harg2 : arg2.IsWhole) (arg3 : Memref sig .tc .vmem S1x1 .f32) (harg3 : arg3.IsWhole) (arg4 : Memref sig .tc .vmem S1024x512 .f32) (harg4 : arg4.IsWhole) (arg5 : Memref sig .tc .vmem S256x512 .f32) (harg5 : arg5.IsWhole) (arg6 : Memref sig .tc .vmem S1024x128 .f32) (harg6 : arg6.IsWhole)
    (x0 : Vec F S256x512 .f32) (x1 : Vec F S1024x128 .f32) (x2 : Vec F S2x8x512 .f32) (y : S1x1.Idx) :
    ∃ pc ∈ (kernelRun1_A c arg0 harg0 arg1 harg1 arg2 harg2 arg3 harg3 arg4 harg4 arg5 harg5 arg6 harg6 x0 x1 x2).1, y ∈ pc.1.set :=
  View.cover_of_tiledL (kernelRun1_A c arg0 harg0 arg1 harg1 arg2 harg2 arg3 harg3 arg4 harg4 arg5 harg5 arg6 harg6 x0 x1 x2).1 S1x1.size (by sl_kernel_rfl) y

/-- The one-element output the body leaves. -/
def out1_A_3 (c : Dev nD) (arg0 : Memref sig .tc .vmem S256x512 .f32) (harg0 : arg0.IsWhole) (arg1 : Memref sig .tc .vmem S1024x128 .f32) (harg1 : arg1.IsWhole) (arg2 : Memref sig .tc .vmem S2x8x512 .f32) (harg2 : arg2.IsWhole) (arg3 : Memref sig .tc .vmem S1x1 .f32) (harg3 : arg3.IsWhole) (arg4 : Memref sig .tc .vmem S1024x512 .f32) (harg4 : arg4.IsWhole) (arg5 : Memref sig .tc .vmem S256x512 .f32) (harg5 : arg5.IsWhole) (arg6 : Memref sig .tc .vmem S1024x128 .f32) (harg6 : arg6.IsWhole)
    (x0 : Vec F S256x512 .f32) (x1 : Vec F S1024x128 .f32) (x2 : Vec F S2x8x512 .f32) : Vec F S1x1 .f32 :=
  VO1_3.read (Elt F) (VO1_3.writes (Elt F) VO1_3.junk (kernelRun1_A c arg0 harg0 arg1 harg1 arg2 harg2 arg3 harg3 arg4 harg4 arg5 harg5 arg6 harg6 x0 x1 x2).1)

/-- The same at the staging and scratch buffers the region uses. -/
def outsAt1 (c : Dev nD) (t : Fin cfg1.N) : Vec F S1x1 .f32 :=
  out1_A_3 c (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t)

/-- The correlation region's proof data at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the correlation body is called with, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The correlation body is correct. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HS0, HS1, HS2⟩, Hg⟩, Ho, ⟨%d0, H0⟩, ⟨%d1, H1⟩, ⟨%d2, H2⟩, ⟨%d3, H3⟩⟩
  iapply ((kernelRun1_A c _ _ _ _ _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HR0 HR1 HR2 HR3 HR4 HR5 HR6 HR7 HS0 HS1 HS2 Hg]
  · isplitl [HR0 HR1 HR2 HR3 HR4 HR5 HR6 HR7 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The correlation region's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.Run.lean ====
/-
# The whole program

The host stretches and the two regions in order, the buffer contents at each boundary, and the run.
-/
module

public import proofs.«01_k».proof.Proof.KernelIdeal.Corr
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v4, main_v5, main_v6, main_v7, main_v8, main_v9, main_v10, main_v11, main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v17]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- Buffer contents at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- Contents entering the mask region. -/
abbrev W1 : Dev nD → Valuation τ sig (Elt F) := fun c => StableHlo.after hostOps0 (W0 m ρ c)
/-- A buffer the first host stretch does not write is unchanged by it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- Contents leaving the mask region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is not an output of the mask region is unchanged by it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Contents entering the correlation region. -/
abbrev W3 : Dev nD → Valuation τ sig (Elt F) := fun c => StableHlo.after hostOps1 (W2 m ρ c)
/-- A buffer the second host stretch does not write is unchanged by it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- Contents leaving the correlation region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is not an output of the correlation region is unchanged by it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Contents at the return. -/
abbrev W5 : Dev nD → Valuation τ sig (Elt F) := fun c => StableHlo.after hostOps2 (W4 m ρ c)
/-- A buffer the last host stretch does not write is unchanged by it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)

abbrev adm : (p : Fin 2) → (pcfgs (F := F) p).Adm := fun p => (cfgs p).toPCfg_adm
/-- Both regions' proof data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The mask region as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The correlation region as a segment of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The whole program: host stretch, mask region, host stretch, correlation region, host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of these segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run: the program terminates without fault, its result buffer ends at `W5`, its arguments are unchanged and every semaphore counter ends at zero. -/
theorem run_main : θ_run defs (onTc (τ := τ) (main (F := F))) ⟨m, fun _ => 0, ρ⟩ (fun r => (∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩), funext fun g => hz g (.inr (no_unscoped g.2))⟩)

end Cert.KernelIdeal.Run

end
-- ==== Proof.Identity.lean ====
/-
# The identities the claim rests on
-/
module

public import Idealize.ShloMosaic.Lib.Pointwise
public import Idealize.ShloMosaic.Lib.IdealHost

@[expose] public section

set_option maxRecDepth 16384

noncomputable section

namespace Cert.Identity

open Idealize.ShloMosaic

/-- Lane `l` of slab `k` is one of the 512 points. -/
theorem slab_lt (k : Fin 4) (l : Fin 128) : k.val * 128 + l.val < 512 := by omega

/-- A sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lit_half : Ideal.ofBits .f32 0x3F000000#32 = (((1 : ℝ) / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = (((1 : ℝ) / 1024 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_inv64 : Ideal.ofBits .f32 0x3C800000#32 = (((1 : ℝ) / 64 : ℝ) : EReal) := by
  simp [Ideal.ofBits, Ideal.ieee, -EReal.coe_mul]; norm_num
theorem lit_top : Ideal.ofBits .f32 0x7F800000#32 = (⊤ : EReal) := by
  simp [Ideal.ofBits, Ideal.ieee]
theorem lit_bot : Ideal.ofBits .f32 0xFF800000#32 = (⊥ : EReal) := by
  simp [Ideal.ofBits, Ideal.ieee]

/-- The circular correlation of two sequences at a lag. -/
def corr (p r : Fin 512 → EReal) (n : Fin 512) : EReal := ∑ i : Fin 512, r i * p ⟨(n.val + i.val) % 512, Nat.mod_lt _ (by decide)⟩

/-- The least mean square the kernel computes for one batch member: energies less twice the greatest correlation. -/
def viaCorr (p r : Fin 2 → Fin 512 → EReal) : EReal :=
  ((∑ x, p 0 x * p 0 x + ∑ x, p 1 x * p 1 x + (∑ x, r 0 x * r 0 x + ∑ x, r 1 x * r 1 x))
    - Ideal.ofBits .f32 0x40000000#32 * Finset.univ.fold max (Ideal.ofBits .f32 0xFF800000#32) fun n : Fin 512 => corr (p 0) (r 0) n + corr (p 1) (r 1) n)
    * Ideal.ofBits .f32 0x3A800000#32

/-- The least mean square the reference computes for one batch member: the least over the lags. -/
def viaLags (p r : Fin 2 → Fin 512 → EReal) : EReal :=
  Finset.univ.fold min (Ideal.ofBits .f32 0x7F800000#32) fun s : Fin 512 =>
    Ideal.div (∑ j : Fin 512, ∑ c : Fin 2, (p c j - r c ⟨(j.val + 512 - s.val) % 512, Nat.mod_lt _ (by decide)⟩)
      * (p c j - r c ⟨(j.val + 512 - s.val) % 512, Nat.mod_lt _ (by decide)⟩)) (Ideal.ofBits .f32 0x44800000#32)

/-- Rotating a sequence, over the reals: the sum of squared differences at lag `s` is the energies less twice the correlation. -/
theorem square_expand (p r : Fin 512 → ℝ) (s : Fin 512) :
    ∑ j : Fin 512, (p j - r (j - s)) * (p j - r (j - s)) = ∑ x, p x * p x + ∑ x, r x * r x - 2 * ∑ i, r i * p (s + i) := by
  have h1 : ∑ j : Fin 512, r (j - s) * r (j - s) = ∑ x, r x * r x :=
    Fintype.sum_equiv (Equiv.subRight s) _ _ fun j => rfl
  have h2 : ∑ j : Fin 512, r (j - s) * p j = ∑ i, r i * p (s + i) :=
    Fintype.sum_equiv (Equiv.subRight s) _ _ fun j => by
      show r (j - s) * p j = r (j - s) * p (s + (j - s))
      rw [add_sub_cancel]
  rw [← h1, ← h2, Finset.mul_sum, ← Finset.sum_add_distrib, ← Finset.sum_sub_distrib]
  exact Finset.sum_congr rfl fun j _ => by ring

/-- The fold of `max` from `⊥` is attained. -/
theorem fold_max_eq (f : Fin 512 → EReal) (s : Fin 512) (h : ∀ n, f n ≤ f s) : Finset.univ.fold max ⊥ f = f s :=
  le_antisymm ((Finset.fold_max_le _).2 ⟨bot_le, fun n _ => h n⟩) ((Finset.le_fold_max _).2 (Or.inr ⟨s, Finset.mem_univ _, le_rfl⟩))

/-- The fold of `min` from `⊤` is attained. -/
theorem fold_min_eq (f : Fin 512 → EReal) (s : Fin 512) (h : ∀ n, f s ≤ f n) : Finset.univ.fold min ⊤ f = f s :=
  le_antisymm ((Finset.fold_min_le _).2 (Or.inr ⟨s, Finset.mem_univ _, le_rfl⟩)) ((Finset.le_fold_min _).2 ⟨le_top, fun n _ => h n⟩)

/-- For finite contours the two ways agree. -/
theorem viaCorr_eq_viaLags (p r : Fin 2 → Fin 512 → ℝ) :
    viaCorr (fun d j => (p d j : EReal)) (fun d j => (r d j : EReal)) = viaLags (fun d j => (p d j : EReal)) (fun d j => (r d j : EReal)) := by
  let cr : Fin 512 → ℝ := fun n => ∑ i, r 0 i * p 0 (n + i) + ∑ i, r 1 i * p 1 (n + i)
  let en : ℝ := ∑ x, p 0 x * p 0 x + ∑ x, p 1 x * p 1 x + (∑ x, r 0 x * r 0 x + ∑ x, r 1 x * r 1 x)
  have hc : ∀ n : Fin 512, corr (fun j => (p 0 j : EReal)) (fun j => (r 0 j : EReal)) n + corr (fun j => (p 1 j : EReal)) (fun j => (r 1 j : EReal)) n = ((cr n : ℝ) : EReal) := by
    intro n
    show _ = (((∑ i, r 0 i * p 0 (n + i) + ∑ i, r 1 i * p 1 (n + i) : ℝ)) : EReal)
    rw [EReal.coe_add, coe_sum, coe_sum]
    unfold corr
    refine congrArg₂ (· + ·) ?_ ?_ <;>
      exact Finset.sum_congr rfl fun i _ => (EReal.coe_mul _ _).symm
  have hl : ∀ s : Fin 512, (∑ j : Fin 512, ∑ c : Fin 2, ((p c j : EReal) - (r c ⟨(j.val + 512 - s.val) % 512, Nat.mod_lt _ (by decide)⟩ : EReal))
      * ((p c j : EReal) - (r c ⟨(j.val + 512 - s.val) % 512, Nat.mod_lt _ (by decide)⟩ : EReal))) = ((en - 2 * cr s : ℝ) : EReal) := by
    intro s
    have e : en - 2 * cr s = ∑ j : Fin 512, ∑ c : Fin 2, (p c j - r c (j - s)) * (p c j - r c (j - s)) := by
      rw [Finset.sum_comm, Fin.sum_univ_two, square_expand, square_expand]
      show (∑ x, p 0 x * p 0 x + ∑ x, p 1 x * p 1 x + (∑ x, r 0 x * r 0 x + ∑ x, r 1 x * r 1 x)) - 2 * (∑ i, r 0 i * p 0 (s + i) + ∑ i, r 1 i * p 1 (s + i)) = _
      ring
    rw [e, coe_sum]
    refine Finset.sum_congr rfl fun j _ => ?_
    rw [coe_sum]
    refine Finset.sum_congr rfl fun c _ => ?_
    have hi : (⟨(j.val + 512 - s.val) % 512, Nat.mod_lt _ (by decide)⟩ : Fin 512) = j - s := by
      refine Fin.ext ?_
      rw [Fin.sub_def]
      show (j.val + 512 - s.val) % 512 = (512 - s.val + j.val) % 512
      congr 1
      omega
    rw [hi, ← EReal.coe_sub, ← EReal.coe_mul]
  obtain ⟨s, -, hs⟩ := Finset.exists_max_image Finset.univ cr ⟨0, Finset.mem_univ _⟩
  unfold viaCorr viaLags
  simp only [hc, hl, lit_two, lit_bot, lit_top, lit_1024, lit_inv1024]
  rw [fold_max_eq _ s (fun n => EReal.coe_le_coe_iff.2 (hs n (Finset.mem_univ _))),
    fold_min_eq _ s (fun n => ?_)]
  · rw [Ideal.div_coe (by norm_num)]
    refine congrArg₂ (· * ·) ?_ rfl
    show _ = (((∑ x, p 0 x * p 0 x + ∑ x, p 1 x * p 1 x + (∑ x, r 0 x * r 0 x + ∑ x, r 1 x * r 1 x)) - 2 * cr s : ℝ) : EReal)
    simp only [EReal.coe_sub, EReal.coe_mul, EReal.coe_add, coe_sum]
  · rw [Ideal.div_coe (by norm_num), Ideal.div_coe (by norm_num), ← EReal.coe_mul, ← EReal.coe_mul]
    refine EReal.coe_le_coe_iff.2 ?_
    have := hs n (Finset.mem_univ _)
    linarith

/-- A sum over four nested counters, the innermost summed first, is one sum over all positions. -/
theorem sum_nested {M : Type} [AddCommMonoid M] (a b c d N : ℕ) (hN : a * b * c * d = N) (f : Fin N → M)
    (g : Fin a → Fin b → Fin c → Fin d → M)
    (hg : ∀ i s r n (h : ((i.val * b + s.val) * c + r.val) * d + n.val < N), g i s r n = f ⟨((i.val * b + s.val) * c + r.val) * d + n.val, h⟩) :
    ∑ n, ∑ i, ∑ s, ∑ r, g i s r n = ∑ k, f k := by
  rw [Fin.sum_univ_tiles (a * b * c) d hN f, Fin.sum_univ_tiles (a * b) c rfl, Fin.sum_univ_tiles a b rfl, Finset.sum_comm]
  refine Finset.sum_congr rfl fun i _ => ?_
  rw [Finset.sum_comm]
  refine Finset.sum_congr rfl fun s _ => ?_
  rw [Finset.sum_comm]
  refine Finset.sum_congr rfl fun r _ => ?_
  exact Finset.sum_congr rfl fun n _ => hg i s r n _

end Cert.Identity

end
-- ==== Proof.Finite.lean ====
/-
# What the precondition says

`contours_finite` is all ones exactly at contours whose entries are real numbers; here the direction the claim reads.
-/
module

public import proofs.«01_k».proof.Proof.Gen.Pre_contours_finite
public import proofs.«01_k».proof.Proof.Identity
public import Idealize.ShloMosaic.Lib.ReduceAll
public import Idealize.ShloMosaic.Lib.Affine

@[expose] public section

noncomputable section

namespace Cert.Pre_contours_finite.Reading

open Cert.Pre_contours_finite Cert.Pre_contours_finite.Gen
open Idealize.ShloMosaic
open Cert.Identity

/-- The test the precondition makes of one contour array: every absolute value is below plus infinity. -/
def allFinite (A : FVec Ideal S64x512x2 .f32) : IVec S_ 1 :=
  Host.reduce IntOp.andi (cmpf .olt (Host.absf A) (broadcastInDim S64x512x2 ![] bcast_S_S64x512x2 (constant (F := Ideal) S_ .f32 0x7F800000#32)))
    (constantI S_ 1 1#1) reducesTo_S64x512x2_S_d0_1_2 h_S_

/-- An extended real whose absolute value is below plus infinity is a real number. -/
theorem real_of_abs_lt (x : EReal) (h : max x (-x) < ⊤) : ∃ r : ℝ, x = (r : EReal) := by
  obtain ⟨h1, h2⟩ := max_lt_iff.1 h
  have hb : x ≠ ⊥ := fun e => by subst e; simp at h2
  exact ⟨x.toReal, (EReal.coe_toReal h1.ne hb).symm⟩

/-- An array passing the test holds real numbers only. -/
theorem real_of_allFinite (A : FVec Ideal S64x512x2 .f32) (j : S_.Idx) (h : allFinite A j = 1#1) (i : S64x512x2.Idx) : ∃ r : ℝ, A i = (r : EReal) := by
  haveI : Subsingleton S_.Idx := ⟨fun a b => funext fun d => d.elim0⟩
  have e : BitVec.ofBool (decide (max (A i : EReal) (-(A i : EReal)) < Ideal.ofBits .f32 0x7F800000#32)) = 1#1 :=
    Host.reduce_andi_all _ _ _ _ j h i
  rw [lit_top] at e
  refine real_of_abs_lt _ ?_
  by_contra hn
  rw [decide_eq_false hn] at e
  exact absurd e (by decide)

/-- Under the precondition the four contour arrays hold real numbers only. -/
theorem reals (A0 : FVec Ideal S64x1x512x512 .f32) (A1 A2 A3 : FVec Ideal S64x512x2 .f32) (A4 : FVec Ideal S64x1x512x512 .f32)
    (A5 : FVec Ideal S64x512x2 .f32) (A6 : FVec Ideal S64x1x512x512 .f32) (h : fn (F := Ideal) A0 A1 A2 A3 A4 A5 A6 = fun _ => 1#1) :
    (∀ i, ∃ r : ℝ, A1 i = (r : EReal)) ∧ (∀ i, ∃ r : ℝ, A2 i = (r : EReal)) ∧ (∀ i, ∃ r : ℝ, A3 i = (r : EReal)) ∧ (∀ i, ∃ r : ℝ, A5 i = (r : EReal)) := by
  have e : IntOp.andi (IntOp.andi (IntOp.andi (allFinite A1 ix0) (allFinite A2 ix0)) (allFinite A3 ix0)) (allFinite A5 ix0) = 1#1 := congrFun h ix0
  obtain ⟨e, h5⟩ := IntOp.andi_eq_one.1 e
  obtain ⟨e, h3⟩ := IntOp.andi_eq_one.1 e
  obtain ⟨h1, h2⟩ := IntOp.andi_eq_one.1 e
  exact ⟨real_of_allFinite A1 _ h1, real_of_allFinite A2 _ h2, real_of_allFinite A3 _ h3, real_of_allFinite A5 _ h5⟩

end Cert.Pre_contours_finite.Reading

end
-- ==== Proof.KernelIdeal.CorrOut.lean ====
/-
# What the correlation body stores
-/
module

public import proofs.«01_k».proof.Proof.KernelIdeal.Corr
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]

theorem origin2 : (![0, 0] : Fin 2 → Nat) = fun _ => 0 := by
  funext d; revert d; decide

/-- The loop runs 128 times. -/
theorem trips128 : Scf.trips (0#32) (Scalar.addi 0#32 128#32) 1#32 = 128 := by decide +kernel

/-- The first column of the rotating copy of the reference contours. -/
def col0 (M : Vec F S1024x128 .f32) : Vec F S1024x1 .f32 :=
  View.ld M (Rect.unit (s := S1024x128) ![0, 0] S1024x1.size inb_S1024x128_S1024x1_0_0)

/-- The rotating copy before trip `k`. -/
def curAt (M : Vec F S1024x128 .f32) : ℕ → Vec F S1024x128 .f32
  | 0 => M
  | k + 1 => k1_pay10 (curAt M k)

/-- The accumulator before trip `k`. -/
def accAt (P : Vec F S1024x512 .f32) (M : Vec F S1024x128 .f32) (A : Vec F S256x512 .f32) : ℕ → Vec F S256x512 .f32
  | 0 => A
  | k + 1 => k1_pay9 (col0 (curAt M k)) P (accAt P M A k)

/-- The four stacked rotations of the prediction rows that the body writes before its loop. -/
def slabs (x0 : Vec F S256x512 .f32) : Vec F S1024x512 .f32 :=
  View.canon [(⟨Rect.unit (s := S1024x512) ![768, 0] S256x512.size inb_S1024x512_S256x512_768_0, k1_pay6 x0⟩ : View.Piece (Elt F) S1024x512 .f32),
    ⟨Rect.unit (s := S1024x512) ![512, 0] S256x512.size inb_S1024x512_S256x512_512_0, k1_pay5 x0⟩,
    ⟨Rect.unit (s := S1024x512) ![256, 0] S256x512.size inb_S1024x512_S256x512_256_0, k1_pay4 x0⟩,
    ⟨Rect.unit (s := S1024x512) ![0, 0] S256x512.size inb_S1024x512_S256x512_0_0, k1_pay3 x0⟩]

/-- The accumulator after the loop. -/
def accEnd (x0 : Vec F S256x512 .f32) (x1 : Vec F S1024x128 .f32) : Vec F S256x512 .f32 :=
  accAt (slabs x0) (k1_pay7 x1) k1_pay8 128

/-- One of the two halves of the mask sums. -/
def half0 (x2 : Vec F S2x8x512 .f32) : Vec F S1x8x512 .f32 :=
  View.ld x2 (Rect.unit (s := S2x8x512) ![0, 0, 0] S1x8x512.size inb_S2x8x512_S1x8x512_0_0_0)
/-- The other one. -/
def half1 (x2 : Vec F S2x8x512 .f32) : Vec F S1x8x512 .f32 :=
  View.ld x2 (Rect.unit (s := S2x8x512) ![1, 0, 0] S1x8x512.size inb_S2x8x512_S1x8x512_1_0_0)

/-- After `k` trips the two buffers the loop writes read as the accumulator and the rotating copy after `k` trips. -/
theorem loop_reads (c : Dev nD) (arg0 : Memref sig .tc .vmem S256x512 .f32) (harg0 : arg0.IsWhole) (arg1 : Memref sig .tc .vmem S1024x128 .f32) (harg1 : arg1.IsWhole) (arg2 : Memref sig .tc .vmem S2x8x512 .f32) (harg2 : arg2.IsWhole) (arg3 : Memref sig .tc .vmem S1x1 .f32) (harg3 : arg3.IsWhole) (arg4 : Memref sig .tc .vmem S1024x512 .f32) (harg4 : arg4.IsWhole) (arg5 : Memref sig .tc .vmem S256x512 .f32) (harg5 : arg5.IsWhole) (arg6 : Memref sig .tc .vmem S1024x128 .f32) (harg6 : arg6.IsWhole)
    (X4 : BufTy.Contents (Elt F) arg4.view.ty) (G5 : BufTy.Contents (Elt F) arg5.view.ty) (G6 : BufTy.Contents (Elt F) arg6.view.ty)
    (k : ℕ) (hk : k ≤ k1_t1_loop.trips) :
    arg5.view.read (Elt F) (arg5.view.writes (Elt F) G5 (pb_k1_t1 (F := F) Variants.none c none arg0 harg0 arg1 harg1 arg2 harg2 arg3 harg3 arg4 harg4 arg5 harg5 arg6 harg6 X4 G5 G6 k).1)
        = accAt (arg4.view.read (Elt F) X4) (arg6.view.read (Elt F) G6) (arg5.view.read (Elt F) G5) k
      ∧ arg6.view.read (Elt F) (arg6.view.writes (Elt F) G6 (pb_k1_t1 (F := F) Variants.none c none arg0 harg0 arg1 harg1 arg2 harg2 arg3 harg3 arg4 harg4 arg5 harg5 arg6 harg6 X4 G5 G6 k).2)
        = curAt (arg6.view.read (Elt F) G6) k := by
  induction k with
  | zero => exact ⟨rfl, rfl⟩
  | succ k ih =>
    obtain ⟨ih5, ih6⟩ := ih (Nat.le_of_succ_le hk)
    have hs := pb_k1_t1_succ (F := F) Variants.none c none arg0 harg0 arg1 harg1 arg2 harg2 arg3 harg3 arg4 harg4 arg5 harg5 arg6 harg6 X4 G5 G6 ⟨k, hk⟩
    dsimp only at hs
    rw [hs]
    unfold trip_k1_t1
    dsimp only
    sl_unfold_words
    rw [List.singleton_append, List.singleton_append, View.read_writes_full, View.read_writes_full]
    rw [accAt, curAt, ← ih5, ← ih6]
    constructor
    · simp only [View.readAt_eq_ld, View.ld_unit_zero (S := S256x512) origin2, View.ld_unit_zero (S := S1024x512) origin2]
      rfl
    · simp only [View.readAt_eq_ld, View.ld_unit_zero (S := S1024x128) origin2]

/-- The one number the body stores, as a function of its three operands. -/
def outVal (x0 : Vec F S256x512 .f32) (x1 : Vec F S1024x128 .f32) (x2 : Vec F S2x8x512 .f32) : Vec F S1x1 .f32 :=
  k1_pay1 (k1_pay16 (k1_pay13 (k1_pay2 x0) (accEnd x0 x1) x1))
    (k1_pay17 (k1_pay14 (k1_pay2 x0) (accEnd x0 x1) x1) k1_pay15)
    (k1_pay19 (half0 x2) (half1 x2)) (k1_pay20 (half0 x2) (half1 x2)) (k1_pay21 (half0 x2) (half1 x2))
    (k1_pay22 (half0 x2) (half1 x2)) (k1_pay23 (half0 x2) (half1 x2))

set_option maxHeartbeats 1000000 in
/-- The body stores that number. -/
theorem out1_eq (c : Dev nD) (arg0 : Memref sig .tc .vmem S256x512 .f32) (harg0 : arg0.IsWhole) (arg1 : Memref sig .tc .vmem S1024x128 .f32) (harg1 : arg1.IsWhole) (arg2 : Memref sig .tc .vmem S2x8x512 .f32) (harg2 : arg2.IsWhole) (arg3 : Memref sig .tc .vmem S1x1 .f32) (harg3 : arg3.IsWhole) (arg4 : Memref sig .tc .vmem S1024x512 .f32) (harg4 : arg4.IsWhole) (arg5 : Memref sig .tc .vmem S256x512 .f32) (harg5 : arg5.IsWhole) (arg6 : Memref sig .tc .vmem S1024x128 .f32) (harg6 : arg6.IsWhole)
    (x0 : Vec F S256x512 .f32) (x1 : Vec F S1024x128 .f32) (x2 : Vec F S2x8x512 .f32) :
    out1_A_3 c arg0 harg0 arg1 harg1 arg2 harg2 arg3 harg3 arg4 harg4 arg5 harg5 arg6 harg6 x0 x1 x2 = outVal x0 x1 x2 := by
  unfold out1_A_3
  rw [View.read_writes_eq_canon _ _ _ (cover1_A_3 c arg0 harg0 arg1 harg1 arg2 harg2 arg3 harg3 arg4 harg4 arg5 harg5 arg6 harg6 x0 x1 x2)]
  unfold kernelRun1_A; dsimp only; sl_unfold_words
  rw [View.canon_unit_zero origin2]
  simp only [View.readAt_eq_ld, harg0.read_unread, harg1.read_unread, harg2.read_unread]
  simp only [View.ld_unit_zero (S := S256x512) origin2, View.ld_unit_zero (S := S1024x128) origin2]
  unfold View.readCov
  simp only [View.writes_append, View.readAt_eq_ld, View.ld_unit_zero (S := S256x512) origin2, trips128]
  have hl := (loop_reads c arg0 harg0 arg1 harg1 arg2 harg2 arg3 harg3 arg4 harg4 arg5 harg5 arg6 harg6
    (arg4.view.writes (Elt F) arg4.view.junk
      [(⟨Rect.unit (s := S1024x512) ![768, 0] S256x512.size inb_S1024x512_S256x512_768_0, k1_pay6 x0⟩ : View.Piece (Elt F) S1024x512 .f32),
        ⟨Rect.unit (s := S1024x512) ![512, 0] S256x512.size inb_S1024x512_S256x512_512_0, k1_pay5 x0⟩,
        ⟨Rect.unit (s := S1024x512) ![256, 0] S256x512.size inb_S1024x512_S256x512_256_0, k1_pay4 x0⟩,
        ⟨Rect.unit (s := S1024x512) ![0, 0] S256x512.size inb_S1024x512_S256x512_0_0, k1_pay3 x0⟩])
    (arg5.view.writes (Elt F) arg5.view.junk
      [(⟨Rect.unit (s := S256x512) ![0, 0] S256x512.size inb_S256x512_S256x512_0_0, k1_pay8⟩ : View.Piece (Elt F) S256x512 .f32)])
    (arg6.view.writes (Elt F) arg6.view.junk
      [(⟨Rect.unit (s := S1024x128) ![0, 0] S1024x128.size inb_S1024x128_S1024x128_0_0, k1_pay7 x1⟩ : View.Piece (Elt F) S1024x128 .f32)])
    128 (le_of_eq trips128.symm)).1
  rw [View.read_writes_junk_eq_canon, View.read_writes_junk_eq_canon arg5.view, View.read_writes_junk_eq_canon arg6.view,
    View.canon_unit_zero origin2, View.canon_unit_zero origin2] at hl
  unfold outVal accEnd slabs half0 half1
  rw [← hl]

/-- So does the region's one grid point. -/
theorem outsAt1_eq (V : (c : Dev nD) → (b : Ref sig .tc) → Buf (Elt F) ((c : Thread nD τ).loc b)) (c : Dev nD) (t : Fin cfg1.N) :
    outsAt1 V c t = outVal (iblk1 V c 0 t) (iblk1 V c 1 t) (iblk1 V c 2 t) := by
  unfold outsAt1
  exact out1_eq c _ _ _ _ _ _ _ _ _ _ _ _ _ _ _ _ _

end Cert.KernelIdeal.Run

end
-- ==== Proof.KernelIdeal.Steps.lean ====
/-
# The correlation body's loop, entry by entry
-/
module

public import proofs.«01_k».proof.Proof.KernelIdeal.CorrOut

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

/-- The first slab is the rows themselves, -/
theorem pay3_at (p0 : FVec Ideal S256x512 .f32) (r : Fin 256) (n : Fin 512) : k1_pay3 (F := Ideal) p0 (ix2 r n) = p0 (ix2 r n) := by
  pointwise [k1_pay3, k1_pay2]
/-- the others are the rows rotated by 128, 256 and 384 lanes. -/
theorem pay4_at (p0 : FVec Ideal S256x512 .f32) (r : Fin 256) (n : Fin 512) :
    k1_pay4 (F := Ideal) p0 (ix2 r n) = p0 (ix2 r ⟨((n : ℕ) + 128) % 512, Nat.mod_lt _ (by decide)⟩) := by
  pointwise [k1_pay4, k1_pay2]
  exact congrArg p0 ((ix2_inj ..).2 ⟨rfl, Fin.ext (by show ((n : ℕ) + 512 - 384) % 512 = ((n : ℕ) + 128) % 512; omega)⟩)
theorem pay5_at (p0 : FVec Ideal S256x512 .f32) (r : Fin 256) (n : Fin 512) :
    k1_pay5 (F := Ideal) p0 (ix2 r n) = p0 (ix2 r ⟨((n : ℕ) + 256) % 512, Nat.mod_lt _ (by decide)⟩) := by
  pointwise [k1_pay5, k1_pay2]
  exact congrArg p0 ((ix2_inj ..).2 ⟨rfl, Fin.ext (by show ((n : ℕ) + 512 - 256) % 512 = ((n : ℕ) + 256) % 512; omega)⟩)
theorem pay6_at (p0 : FVec Ideal S256x512 .f32) (r : Fin 256) (n : Fin 512) :
    k1_pay6 (F := Ideal) p0 (ix2 r n) = p0 (ix2 r ⟨((n : ℕ) + 384) % 512, Nat.mod_lt _ (by decide)⟩) := by
  pointwise [k1_pay6, k1_pay2]
  exact congrArg p0 ((ix2_inj ..).2 ⟨rfl, Fin.ext (by show ((n : ℕ) + 512 - 128) % 512 = ((n : ℕ) + 384) % 512; omega)⟩)

/-- Row `R` of the stacked rotations is the prediction row `R % 256`, rotated by 128 lanes for each slab before it. -/
theorem slabs_at (p0 : FVec Ideal S256x512 .f32) (R : Fin 1024) (n : Fin 512) :
    slabs (F := Ideal) p0 (ix2 R n)
      = p0 (ix2 ⟨(R : ℕ) % 256, Nat.mod_lt _ (by decide)⟩ ⟨((n : ℕ) + 128 * ((R : ℕ) / 256)) % 512, Nat.mod_lt _ (by decide)⟩) := by
  unfold slabs
  canon_tiles x h
  all_goals
    idx_vars x
    first | rw [pay3_at] | rw [pay4_at] | rw [pay5_at] | rw [pay6_at]
    refine congrArg p0 ((ix2_inj ..).2 ⟨Fin.ext ?_, Fin.ext ?_⟩)
    · show (x0 : ℕ) = (R : ℕ) % 256
      replace h0 : (R : ℕ) = _ := h0
      omega
    · replace h0 : (R : ℕ) = _ := h0
      replace h1 : (n : ℕ) = (x1 : ℕ) := h1
      dsimp only
      omega

/-- One rotation of the stored copy by a lane. -/
theorem pay10_at (M : FVec Ideal S1024x128 .f32) (i : Fin 1024) (l : Fin 128) :
    k1_pay10 (F := Ideal) M (ix2 i l) = M (ix2 i ⟨((l : ℕ) + 127) % 128, Nat.mod_lt _ (by decide)⟩) := by
  pointwise [k1_pay10]
  exact congrArg M ((ix2_inj ..).2 ⟨rfl, Fin.ext (by show ((l : ℕ) + 128 - 1) % 128 = ((l : ℕ) + 127) % 128; omega)⟩)
/-- The copy starts rotated by a lane. -/
theorem pay7_at (M : FVec Ideal S1024x128 .f32) (i : Fin 1024) (l : Fin 128) :
    k1_pay7 (F := Ideal) M (ix2 i l) = M (ix2 i ⟨((l : ℕ) + 127) % 128, Nat.mod_lt _ (by decide)⟩) := by
  pointwise [k1_pay7]
  exact congrArg M ((ix2_inj ..).2 ⟨rfl, Fin.ext (by show ((l : ℕ) + 128 - 1) % 128 = ((l : ℕ) + 127) % 128; omega)⟩)
/-- The accumulator starts at zero. -/
theorem pay8_at (r : Fin 256) (n : Fin 512) : k1_pay8 (F := Ideal) (ix2 r n) = 0 := by
  pointwise [k1_pay8]

/-- One trip of the accumulator: rotate by one lane, add the four slabs' products. -/
theorem pay9_at (m : FVec Ideal S1024x1 .f32) (P : FVec Ideal S1024x512 .f32) (A : FVec Ideal S256x512 .f32) (r : Fin 256) (n : Fin 512) :
    k1_pay9 (F := Ideal) m P A (ix2 r n) = A (ix2 r ⟨((n : ℕ) + 1) % 512, Nat.mod_lt _ (by decide)⟩)
      + (m (ix2 ⟨(r : ℕ), by omega⟩ 0) * P (ix2 ⟨(r : ℕ), by omega⟩ n) + m (ix2 ⟨256 + (r : ℕ), by omega⟩ 0) * P (ix2 ⟨256 + (r : ℕ), by omega⟩ n)
        + m (ix2 ⟨512 + (r : ℕ), by omega⟩ 0) * P (ix2 ⟨512 + (r : ℕ), by omega⟩ n) + m (ix2 ⟨768 + (r : ℕ), by omega⟩ 0) * P (ix2 ⟨768 + (r : ℕ), by omega⟩ n)) := by
  pointwise [k1_pay9]
  refine congrArg₂ (· + ·) (congrArg A ((ix2_inj ..).2 ⟨rfl, Fin.ext ?_⟩)) rfl
  show ((n : ℕ) + 512 - 511) % 512 = ((n : ℕ) + 1) % 512
  omega

/-- The rotating copy before trip `k`, entry by entry. -/
theorem curAt_at (r0 : FVec Ideal S1024x128 .f32) (k : ℕ) (i : Fin 1024) (l : Fin 128) :
    curAt (F := Ideal) (k1_pay7 (F := Ideal) r0) k (ix2 i l) = r0 (ix2 i ⟨((l : ℕ) + 127 * (k + 1)) % 128, Nat.mod_lt _ (by decide)⟩) := by
  induction k generalizing l with
  | zero => exact pay7_at r0 i l
  | succ k ih =>
    rw [curAt, pay10_at, ih]
    exact congrArg r0 ((ix2_inj ..).2 ⟨rfl, Fin.ext (by
      show (((l : ℕ) + 127) % 128 + 127 * (k + 1)) % 128 = ((l : ℕ) + 127 * (k + 1 + 1)) % 128; omega)⟩)

/-- Its first column before trip `k`. -/
theorem col0_at (r0 : FVec Ideal S1024x128 .f32) (k : ℕ) (i : Fin 1024) :
    col0 (F := Ideal) (curAt (k1_pay7 (F := Ideal) r0) k) (ix2 i 0) = r0 (ix2 i ⟨(127 * (k + 1)) % 128, Nat.mod_lt _ (by decide)⟩) := by
  unfold col0
  pointwise
  rw [show (0 : Fin 128) = ⟨0, by decide⟩ from rfl, curAt_at]
  exact congrArg r0 ((ix2_inj ..).2 ⟨rfl, Fin.ext (by show (0 + 127 * (k + 1)) % 128 = _; rw [Nat.zero_add])⟩)

/-- The products of the four slabs, for lane `l` of the reference copy and position `e` of the prediction row. -/
def prods (p0 : FVec Ideal S256x512 .f32) (r0 : FVec Ideal S1024x128 .f32) (r : Fin 256) (l e : ℕ) : EReal :=
  r0 (ix2 ⟨(r : ℕ), by omega⟩ ⟨l % 128, Nat.mod_lt _ (by decide)⟩) * p0 (ix2 r ⟨e % 512, Nat.mod_lt _ (by decide)⟩)
    + r0 (ix2 ⟨256 + (r : ℕ), by omega⟩ ⟨l % 128, Nat.mod_lt _ (by decide)⟩) * p0 (ix2 r ⟨(e + 128) % 512, Nat.mod_lt _ (by decide)⟩)
    + r0 (ix2 ⟨512 + (r : ℕ), by omega⟩ ⟨l % 128, Nat.mod_lt _ (by decide)⟩) * p0 (ix2 r ⟨(e + 256) % 512, Nat.mod_lt _ (by decide)⟩)
    + r0 (ix2 ⟨768 + (r : ℕ), by omega⟩ ⟨l % 128, Nat.mod_lt _ (by decide)⟩) * p0 (ix2 r ⟨(e + 384) % 512, Nat.mod_lt _ (by decide)⟩)

/-- `prods` depends on the position only up to whole turns. -/
theorem prods_congr (p0 : FVec Ideal S256x512 .f32) (r0 : FVec Ideal S1024x128 .f32) (r : Fin 256) {l l' e e' : ℕ}
    (hl : l % 128 = l' % 128) (he : e % 512 = e' % 512) : prods p0 r0 r l e = prods p0 r0 r l' e' := by
  unfold prods
  have e1 : (e + 128) % 512 = (e' + 128) % 512 := by omega
  have e2 : (e + 256) % 512 = (e' + 256) % 512 := by omega
  have e3 : (e + 384) % 512 = (e' + 384) % 512 := by omega
  simp only [hl, he, e1, e2, e3]

/-- The accumulator before trip `k`: the products of the trips before it, each moved on by the trips since. -/
theorem accAt_at (p0 : FVec Ideal S256x512 .f32) (r0 : FVec Ideal S1024x128 .f32) (k : ℕ) (r : Fin 256) (n : Fin 512) :
    accAt (F := Ideal) (slabs (F := Ideal) p0) (k1_pay7 (F := Ideal) r0) (k1_pay8 (F := Ideal)) k (ix2 r n)
      = ∑ j ∈ Finset.range k, prods p0 r0 r (127 * (j + 1)) ((n : ℕ) + (k - 1 - j)) := by
  induction k generalizing n with
  | zero => rw [accAt, pay8_at, Finset.sum_range_zero]
  | succ k ih =>
    rw [accAt, pay9_at, ih, Finset.sum_range_succ]
    refine congrArg₂ (· + ·) (Finset.sum_congr rfl fun j hj => prods_congr p0 r0 r rfl ?_) ?_
    · have := Finset.mem_range.mp hj
      show (((n : ℕ) + 1) % 512 + (k - 1 - j)) % 512 = ((n : ℕ) + (k + 1 - 1 - j)) % 512
      omega
    · unfold prods
      simp only [col0_at, slabs_at]
      have hr := r.isLt
      have h0 : (r : ℕ) % 256 = r := by omega
      have h1 : (256 + (r : ℕ)) % 256 = r := by omega
      have h2 : (512 + (r : ℕ)) % 256 = r := by omega
      have h3 : (768 + (r : ℕ)) % 256 = r := by omega
      have d0 : (r : ℕ) / 256 = 0 := by omega
      have d1 : (256 + (r : ℕ)) / 256 = 1 := by omega
      have d2 : (512 + (r : ℕ)) / 256 = 2 := by omega
      have d3 : (768 + (r : ℕ)) / 256 = 3 := by omega
      have hk : k + 1 - 1 - k = 0 := by omega
      simp only [h0, h1, h2, h3, d0, d1, d2, d3, hk, Nat.mul_zero, Nat.add_zero, Nat.mul_one, Nat.reduceMul]

/-- The accumulator after the loop. -/
theorem accEnd_at (p0 : FVec Ideal S256x512 .f32) (r0 : FVec Ideal S1024x128 .f32) (r : Fin 256) (n : Fin 512) :
    accEnd (F := Ideal) p0 r0 (ix2 r n) = ∑ l : Fin 128, prods p0 r0 r l ((n : ℕ) + l) := by
  unfold accEnd
  rw [accAt_at, ← Finset.sum_range_reflect, Finset.sum_range]
  refine Finset.sum_congr rfl fun l _ => prods_congr p0 r0 r ?_ ?_ <;> (have := l.isLt; omega)

end Cert.KernelIdeal.Run

end
-- ==== Proof.KernelIdeal.OutVal.lean ====
/-
# The correlation body's number over the stacked contours and the mask sums
-/
module

public import proofs.«01_k».proof.Proof.KernelIdeal.Steps
public import proofs.«01_k».proof.Proof.Identity

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Cert.Identity

section Batch

variable (p0 : FVec Ideal S256x512 .f32) (r0 : FVec Ideal S1024x128 .f32) (p r : Fin 2 → Fin 512 → EReal) (off : ℕ) (b : Fin 64)
  (hp : ∀ (d : Fin 2) (n : Fin 512) (q : Fin 256), q.val = off + 64 * d.val + b.val → p0 (ix2 q n) = p d n)
  (hr : ∀ (d : Fin 2) (k : Fin 4) (l : Fin 128) (q : Fin 1024), q.val = 256 * k.val + (off + 64 * d.val + b.val) →
    r0 (ix2 q l) = r d ⟨k.val * 128 + l.val, slab_lt k l⟩)
include hp

/-- A row's energy. -/
theorem rowSq (d : Fin 2) (q : Fin 256) (h : q.val = off + 64 * d.val + b.val) : ∑ x : Fin 512, p0 (ix2 q x) * p0 (ix2 q x) = ∑ x, p d x * p d x :=
  Finset.sum_congr rfl fun x _ => by rw [hp d x q h]

include hr

omit hp in
/-- A column contour's energy, from its four slabs. -/
theorem slabSq (d : Fin 2) (q0 q1 q2 q3 : Fin 1024) (h0 : q0.val = off + 64 * d.val + b.val) (h1 : q1.val = 256 + (off + 64 * d.val + b.val))
    (h2 : q2.val = 512 + (off + 64 * d.val + b.val)) (h3 : q3.val = 768 + (off + 64 * d.val + b.val)) :
    ∑ x : Fin 128, r0 (ix2 q0 x) * r0 (ix2 q0 x) + ∑ x : Fin 128, r0 (ix2 q1 x) * r0 (ix2 q1 x) + ∑ x : Fin 128, r0 (ix2 q2 x) * r0 (ix2 q2 x)
      + ∑ x : Fin 128, r0 (ix2 q3 x) * r0 (ix2 q3 x) = ∑ x, r d x * r d x := by
  have e : ∀ (k : Fin 4) (q : Fin 1024), q.val = 256 * k.val + (off + 64 * d.val + b.val) →
      ∑ x : Fin 128, r0 (ix2 q x) * r0 (ix2 q x) = ∑ x : Fin 128, r d ⟨k.val * 128 + x.val, slab_lt k x⟩ * r d ⟨k.val * 128 + x.val, slab_lt k x⟩ :=
    fun k q h => Finset.sum_congr rfl fun x _ => by rw [hr d k x q h]
  rw [Fin.sum_univ_tiles 4 128 rfl (fun x : Fin 512 => r d x * r d x), Fin.sum_univ_four,
    e 0 q0 (h0.trans (by show _ = 256 * 0 + _; omega)), e 1 q1 (h1.trans (by show _ = 256 * 1 + _; omega)),
    e 2 q2 (h2.trans (by show _ = 256 * 2 + _; omega)), e 3 q3 (h3.trans (by show _ = 256 * 3 + _; omega))]

/-- The accumulated row is the circular correlation. -/
theorem acc_corr (d : Fin 2) (q : Fin 256) (h : q.val = off + 64 * d.val + b.val) (n : Fin 512) :
    accEnd (F := Ideal) p0 r0 (ix2 q n) = corr (p d) (r d) n := by
  rw [accEnd_at]
  unfold corr
  rw [Fin.sum_univ_tiles 4 128 rfl (fun i : Fin 512 => r d i * p d ⟨(n.val + i.val) % 512, Nat.mod_lt _ (by decide)⟩), Fin.sum_univ_four,
    ← Finset.sum_add_distrib, ← Finset.sum_add_distrib, ← Finset.sum_add_distrib]
  refine Finset.sum_congr rfl fun l _ => ?_
  unfold prods
  have term : ∀ (k : Fin 4) (q' : Fin 1024) (e : ℕ), q'.val = 256 * k.val + (off + 64 * d.val + b.val) → e % 512 = (n.val + (k.val * 128 + l.val)) % 512 →
      r0 (ix2 q' ⟨l.val % 128, Nat.mod_lt _ (by decide)⟩) * p0 (ix2 q ⟨e % 512, Nat.mod_lt _ (by decide)⟩)
        = r d ⟨k.val * 128 + l.val, slab_lt k l⟩ * p d ⟨(n.val + (k.val * 128 + l.val)) % 512, Nat.mod_lt _ (by decide)⟩ := by
    intro k q' e hq he
    rw [hr d k _ q' hq, hp d _ q h]
    refine congrArg₂ (fun x y => r d x * p d y) (Fin.ext ?_) (Fin.ext he)
    show k.val * 128 + l.val % 128 = k.val * 128 + l.val
    have := l.isLt
    omega
  refine congrArg₂ (· + ·) (congrArg₂ (· + ·) (congrArg₂ (· + ·) (term 0 _ _ ?_ ?_) (term 1 _ _ ?_ ?_)) (term 2 _ _ ?_ ?_)) (term 3 _ _ ?_ ?_)
  · show q.val = 256 * 0 + _; omega
  · show (n.val + l.val) % 512 = (n.val + (0 * 128 + l.val)) % 512; congr 1; omega
  · show 256 + q.val = 256 * 1 + _; omega
  · show (n.val + l.val + 128) % 512 = (n.val + (1 * 128 + l.val)) % 512; congr 1; omega
  · show 512 + q.val = 256 * 2 + _; omega
  · show (n.val + l.val + 256) % 512 = (n.val + (2 * 128 + l.val)) % 512; congr 1; omega
  · show 768 + q.val = 256 * 3 + _; omega
  · show (n.val + l.val + 384) % 512 = (n.val + (3 * 128 + l.val)) % 512; congr 1; omega

end Batch

/-- The first pair's least mean square for batch member `b`. -/
theorem pay13_viaCorr (p0 : FVec Ideal S256x512 .f32) (r0 : FVec Ideal S1024x128 .f32) (p r : Fin 2 → Fin 512 → EReal) (b : Fin 64)
    (hp : ∀ (d : Fin 2) (n : Fin 512) (q : Fin 256), q.val = 0 + 64 * d.val + b.val → p0 (ix2 q n) = p d n)
    (hr : ∀ (d : Fin 2) (k : Fin 4) (l : Fin 128) (q : Fin 1024), q.val = 256 * k.val + (0 + 64 * d.val + b.val) →
      r0 (ix2 q l) = r d ⟨k.val * 128 + l.val, slab_lt k l⟩) :
    k1_pay13 (F := Ideal) (k1_pay2 (F := Ideal) p0) (accEnd (F := Ideal) p0 r0) r0 (ix2 b 0) = viaCorr p r := by
  pointwise [k1_pay13, k1_pay11, k1_pay12, k1_pay2]
  unfold viaCorr
  refine congrArg₂ (· * ·) (congrArg₂ (· - ·) (congrArg₂ (· + ·) (congrArg₂ (· + ·) ?_ ?_) (congrArg₂ (· + ·) ?_ ?_)) (congrArg (_ * ·) ?_)) rfl
  · exact rowSq p0 p 0 b hp 0 _ (by simp)
  · exact rowSq p0 p 0 b hp 1 _ (by simp)
  · exact slabSq r0 r 0 b hr 0 _ _ _ _ (by simp) (by simp) (by simp) (by simp)
  · exact slabSq r0 r 0 b hr 1 _ _ _ _ (by simp) (by simp) (by simp) (by simp)
  · refine congrArg (fun f => Finset.univ.fold max (Ideal.ofBits .f32 0xFF800000#32) f) (funext fun n => ?_)
    exact congrArg₂ (· + ·) (acc_corr p0 r0 p r 0 b hp hr 0 _ (by simp) n) (acc_corr p0 r0 p r 0 b hp hr 1 _ (by simp) n)

/-- The second pair's, its last factor kept apart. -/
theorem pay14_viaCorr (p0 : FVec Ideal S256x512 .f32) (r0 : FVec Ideal S1024x128 .f32) (p r : Fin 2 → Fin 512 → EReal) (b : Fin 64)
    (hp : ∀ (d : Fin 2) (n : Fin 512) (q : Fin 256), q.val = 128 + 64 * d.val + b.val → p0 (ix2 q n) = p d n)
    (hr : ∀ (d : Fin 2) (k : Fin 4) (l : Fin 128) (q : Fin 1024), q.val = 256 * k.val + (128 + 64 * d.val + b.val) →
      r0 (ix2 q l) = r d ⟨k.val * 128 + l.val, slab_lt k l⟩) :
    k1_pay14 (F := Ideal) (k1_pay2 (F := Ideal) p0) (accEnd (F := Ideal) p0 r0) r0 (ix2 b 0) * k1_pay15 (F := Ideal) (ix2 b 0) = viaCorr p r := by
  pointwise [k1_pay14, k1_pay11, k1_pay12, k1_pay2, k1_pay15]
  unfold viaCorr
  refine congrArg₂ (· * ·) (congrArg₂ (· - ·) (congrArg₂ (· + ·) (congrArg₂ (· + ·) ?_ ?_) (congrArg₂ (· + ·) ?_ ?_)) (congrArg (_ * ·) ?_)) rfl
  · exact rowSq p0 p 128 b hp 0 _ (by simp)
  · exact rowSq p0 p 128 b hp 1 _ (by simp <;> omega)
  · exact slabSq r0 r 128 b hr 0 _ _ _ _ (by simp) (by simp) (by simp) (by simp)
  · exact slabSq r0 r 128 b hr 1 _ _ _ _ (by simp <;> omega) (by simp <;> omega) (by simp <;> omega) (by simp <;> omega)
  · refine congrArg (fun f => Finset.univ.fold max (Ideal.ofBits .f32 0xFF800000#32) f) (funext fun n => ?_)
    exact congrArg₂ (· + ·) (acc_corr p0 r0 p r 128 b hp hr 0 _ (by simp) n) (acc_corr p0 r0 p r 128 b hp hr 1 _ (by simp <;> omega) n)

theorem pay16_at (v : FVec Ideal S64x1 .f32) : k1_pay16 (F := Ideal) v = (∑ b : Fin 64, v (ix2 b 0)) * Ideal.ofBits .f32 0x3C800000#32 := by
  pointwise [k1_pay16]
  simp only [Fin.sum_univ_one, Finset.univ_unique, Finset.sum_singleton]

theorem pay17_at (v w : FVec Ideal S64x1 .f32) : k1_pay17 (F := Ideal) v w = (∑ b : Fin 64, v (ix2 b 0) * w (ix2 b 0)) * Ideal.ofBits .f32 0x3C800000#32 := by
  pointwise [k1_pay17]
  simp only [Fin.sum_univ_one, Finset.univ_unique, Finset.sum_singleton]

/-- Row `q` of the mask sums, both halves together. -/
def sumRow (x2 : FVec Ideal S2x8x512 .f32) (q : Fin 8) : EReal := ∑ n : Fin 512, ∑ i : Fin 2, x2 (ix3 i q n)

theorem pay19_at (x2 : FVec Ideal S2x8x512 .f32) : k1_pay19 (F := Ideal) (half0 x2) (half1 x2) = sumRow x2 0 := by
  pointwise [k1_pay19, k1_pay18, half0, half1]
  simp only [Fin.sum_univ_one, Finset.univ_unique, Finset.sum_singleton, sumRow, Fin.sum_univ_two]
theorem pay20_at (x2 : FVec Ideal S2x8x512 .f32) : k1_pay20 (F := Ideal) (half0 x2) (half1 x2) = sumRow x2 1 := by
  pointwise [k1_pay20, k1_pay18, half0, half1]
  simp only [Fin.sum_univ_one, Finset.univ_unique, Finset.sum_singleton, sumRow, Fin.sum_univ_two]
theorem pay21_at (x2 : FVec Ideal S2x8x512 .f32) : k1_pay21 (F := Ideal) (half0 x2) (half1 x2) = sumRow x2 2 := by
  pointwise [k1_pay21, k1_pay18, half0, half1]
  simp only [Fin.sum_univ_one, Finset.univ_unique, Finset.sum_singleton, sumRow, Fin.sum_univ_two]
theorem pay22_at (x2 : FVec Ideal S2x8x512 .f32) : k1_pay22 (F := Ideal) (half0 x2) (half1 x2) = sumRow x2 4 := by
  pointwise [k1_pay22, k1_pay18, half0, half1]
  simp only [Fin.sum_univ_one, Finset.univ_unique, Finset.sum_singleton, sumRow, Fin.sum_univ_two]
theorem pay23_at (x2 : FVec Ideal S2x8x512 .f32) : k1_pay23 (F := Ideal) (half0 x2) (half1 x2) = Ideal.ofBits .f32 0x40000000#32 * sumRow x2 3 + 1 := by
  pointwise [k1_pay23, k1_pay18, half0, half1]
  simp only [Fin.sum_univ_one, Finset.univ_unique, Finset.sum_singleton, sumRow, Fin.sum_univ_two]

theorem pay1_at (a b c d e f g : EReal) :
    k1_pay1 (F := Ideal) a b c d e f g (ix2 0 0) = Ideal.ofBits .f32 0x3F000000#32 * (1 - Ideal.div g (c + d + 1) + a)
      + Ideal.ofBits .f32 0x3F000000#32 * (1 - Ideal.div (Ideal.ofBits .f32 0x40000000#32 * f + 1) (c + e + 1) + b) := by
  pointwise [k1_pay1]

end Cert.KernelIdeal.Run

end
-- ==== Proof.KernelIdeal.MaskOut.lean ====
/-
# What the mask region leaves
-/
module

public import proofs.«01_k».proof.Proof.KernelIdeal.Mask
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

section AnyFloats

variable {F : FTy → Type} [FloatOps F]

theorem origin2' : (![0, 0] : Fin 2 → Nat) = fun _ => 0 := by funext d; revert d; decide
theorem origin3 : (![0, 0, 0] : Fin 3 → Nat) = fun _ => 0 := by funext d; revert d; decide

/-- A first point stores its own column sums. -/
theorem out0_A_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : cond0_0 i) (hc1 : ¬cond0_1 i)
    (x0 : Vec F S1024x512 .f32) (x1 : Vec F S1024x512 .f32) (x2 : Vec F S1024x512 .f32) :
    out0_A_3 c i arg2 harg2 arg3 harg3 arg4 harg4 arg5 harg5 hc0 hc1 x0 x1 x2 = k0_pay1 x0 x1 x2 := by
  unfold out0_A_3
  rw [View.read_writes_eq_canon _ _ _ (cover0_A_3 c i arg2 harg2 arg3 harg3 arg4 harg4 arg5 harg5 hc0 hc1 x0 x1 x2)]
  unfold kernelRun0_A; dsimp only; sl_unfold_words
  rw [View.canon_unit_zero origin3]
  simp only [View.readAt_eq_ld, harg2.read_unread, harg3.read_unread, harg4.read_unread, View.ld_unit_zero (S := S1024x512) origin2']

/-- Any other point adds its column sums to what it finds. -/
theorem out0_B_eq (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x8x512 .f32) (harg5 : arg5.IsWhole) (hc0 : ¬cond0_0 i) (hc1 : cond0_1 i)
    (x0 : Vec F S1024x512 .f32) (x1 : Vec F S1024x512 .f32) (x2 : Vec F S1024x512 .f32) (xo3 : Vec F S1x8x512 .f32) :
    out0_B_3 c i arg2 harg2 arg3 harg3 arg4 harg4 arg5 harg5 hc0 hc1 x0 x1 x2 xo3 = k0_pay2 x0 x1 x2 xo3 := by
  unfold out0_B_3
  rw [View.read_writes_eq_canon _ _ _ (cover0_B_3 c i arg2 harg2 arg3 harg3 arg4 harg4 arg5 harg5 hc0 hc1 x0 x1 x2 xo3)]
  unfold kernelRun0_B; dsimp only; sl_unfold_words
  rw [View.canon_unit_zero origin3]
  simp only [View.readAt_eq_ld, harg2.read_unread, harg3.read_unread, harg4.read_unread, harg5.read_unread, View.ld_unit_zero (S := S1024x512) origin2',
    View.ld_unit_zero (S := S1x8x512) origin3]

end AnyFloats

/-- The accumulating point's block is the previous one plus the point's own. -/
theorem pay2_at (x0 x1 x2 : FVec Ideal S1024x512 .f32) (a : FVec Ideal S1x8x512 .f32) (j : S1x8x512.Idx) :
    k0_pay2 (F := Ideal) x0 x1 x2 a j = a j + k0_pay1 (F := Ideal) x0 x1 x2 j := by
  pointwise [k0_pay2]

/-- Rows `1024 T … 1024 T + 1023` of an array. -/
def rowsOf (X : FVec Ideal S32768x512 .f32) (T : Fin 32) : FVec Ideal S1024x512 .f32 :=
  fun j => X (ix2 ⟨1024 * (T : ℕ) + (j 0 : Fin 1024).val, by have h : (j 0 : Fin 1024).val < 1024 := (j 0 : Fin 1024).isLt; have := T.isLt; show 1024 * (T : ℕ) + (j 0 : Fin 1024).val < 32768; omega⟩ (j 1 : Fin 512))

theorem idx0 : ∀ t : Fin cfg0.N, win0_0.index t = ![t.val, 0] ∧ win0_1.index t = ![t.val, 0] ∧ win0_2.index t = ![t.val, 0]
    ∧ win0_3.index t = ![t.val / 16, 0, 0] :=
  (by decide +kernel : ∀ t : Fin grid0.N, _)

theorem blk_lt (i : Fin 2) (s : Fin 16) : 16 * (i : ℕ) + (s : ℕ) < 32 := by omega

/-- What the mask region leaves, entry by entry: the sum of the blocks' column sums over its sixteen points. -/
def maskOut (C G S : FVec Ideal S32768x512 .f32) : FVec Ideal S2x8x512 .f32 := fun y =>
  ∑ s : Fin 16, k0_pay1 (F := Ideal) (rowsOf C ⟨16 * (y 0 : Fin 2).val + s.val, blk_lt (y 0 : Fin 2) s⟩)
    (rowsOf G ⟨16 * (y 0 : Fin 2).val + s.val, blk_lt (y 0 : Fin 2) s⟩)
    (rowsOf S ⟨16 * (y 0 : Fin 2).val + s.val, blk_lt (y 0 : Fin 2) s⟩) (ix3 0 (y 1 : Fin 8) (y 2 : Fin 512))

theorem iblk0_0 (V : (c : Dev nD) → (b : Ref sig .tc) → Buf (Elt Ideal) ((c : Thread nD τ).loc b)) (c : Dev nD) (t : Fin cfg0.N) :
    iblk0 V c 0 t = rowsOf (V c main_v0) ⟨t.val, t.isLt⟩ := by
  funext y
  show V c main_v0 ((win0_0.blk t).view.emb y) = V c main_v0 _
  refine congrArg (V c main_v0) ?_
  blk_ext [idx0 t]

theorem iblk0_1 (V : (c : Dev nD) → (b : Ref sig .tc) → Buf (Elt Ideal) ((c : Thread nD τ).loc b)) (c : Dev nD) (t : Fin cfg0.N) :
    iblk0 V c 1 t = rowsOf (V c main_v1) ⟨t.val, t.isLt⟩ := by
  funext y
  show V c main_v1 ((win0_1.blk t).view.emb y) = V c main_v1 _
  refine congrArg (V c main_v1) ?_
  blk_ext [idx0 t]

theorem iblk0_2 (V : (c : Dev nD) → (b : Ref sig .tc) → Buf (Elt Ideal) ((c : Thread nD τ).loc b)) (c : Dev nD) (t : Fin cfg0.N) :
    iblk0 V c 2 t = rowsOf (V c main_v2) ⟨t.val, t.isLt⟩ := by
  funext y
  show V c main_v2 ((win0_2.blk t).view.emb y) = V c main_v2 _
  refine congrArg (V c main_v2) ?_
  blk_ext [idx0 t]

theorem mask_final (V : (c : Dev nD) → (b : Ref sig .tc) → Buf (Elt Ideal) ((c : Thread nD τ).loc b)) (c : Dev nD) :
    (dat0 V c).arrAt 3 cfg0.N = maskOut (V c main_v0) (V c main_v1) (V c main_v2) := by
  refine (dat0 V c).arrAt_eq_of_covers 3 _ (by decide +kernel) fun t hf y => ?_
  blk_simp
  rw [after0_3, Pipeline.eq_sum_fin_of_reset_step_apply_of_flush (fun n h => outsAt0 V c n h) 16 (fun _ => (0 : EReal))
    (fun t j => k0_pay1 (F := Ideal) (iblk0 V c 0 t) (iblk0 V c 1 t) (iblk0 V c 2 t) j)
    (fun t h j => by
      show outsAt0 V c t.val t.isLt j = _
      rw [outsAt0_A V c t h (by omega), out0_A_eq, zero_add])
    (fun t h j => by
      show outsAt0 V c t.val t.isLt j = _
      rw [outsAt0_B V c t h (by omega), out0_B_eq, pay2_at])
    t ((flush0_3 t).mp hf) _, zero_add]
  simp only [iblk0_0, iblk0_1, iblk0_2]
  have ht : win0_3.index t = ![t.val / 16, 0, 0] := (idx0 t).2.2.2
  have he : (win0_3.blk t).view.emb y = (ix3 (⟨t.val / 16, by have : t.val < 32 := t.isLt; omega⟩ : Fin 2) (y 1 : Fin 8) (y 2 : Fin 512) : S2x8x512.Idx) := by
    blk_ext [ht]
  have hy : y = (ix3 (0 : Fin 1) (y 1 : Fin 8) (y 2 : Fin 512) : S1x8x512.Idx) := by
    blk_ext [ht]
  refine Eq.trans ?_ (congrArg (maskOut (V c main_v0) (V c main_v1) (V c main_v2)) he.symm)
  exact Fin.sum_fin_congr fun s => congrArg _ hy

end Cert.KernelIdeal.Run

end
-- ==== Proof.KernelIdeal.Host.lean ====
/-
# What the host stretches hand to the regions
-/
module

public import proofs.«01_k».proof.Proof.KernelIdeal.Run
public import proofs.«01_k».proof.Proof.Identity
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

section AnyFloats

variable {F : FTy → Type} [FloatOps F]

/-- A mask laid out as rows of 512. -/
def hostMask (A : FVec F S64x1x512x512 .f32) : FVec F S32768x512 .f32 := shapeCast S32768x512 A shapeCasts_S64x1x512x512_S32768x512

/-- Two contours stacked, coordinates first. -/
def hostPair (A B : FVec F S64x512x2 .f32) : FVec F S2x2x64x512 .f32 :=
  transpose S2x2x64x512 [0, 3, 1, 2] (concatenate S2x64x512x2 0
    [⟨S1x64x512x2, broadcastInDim S1x64x512x2 ![1, 2, 3] bcast_S64x512x2_S1x64x512x2_1_2_3 A⟩,
      ⟨S1x64x512x2, broadcastInDim S1x64x512x2 ![1, 2, 3] bcast_S64x512x2_S1x64x512x2_1_2_3 B⟩]
    concatenates_S1x64x512x2_S1x64x512x2_S2x64x512x2_d0) transposes_S2x64x512x2_S2x2x64x512_0_3_1_2

/-- The contours the correlation reads by rows. -/
def hostRows (A B : FVec F S64x512x2 .f32) : FVec F S256x512 .f32 := shapeCast S256x512 (hostPair A B) shapeCasts_S2x2x64x512_S256x512

/-- The contours the correlation reads by columns, in four slabs of 128 points. -/
def hostSlabs (A B : FVec F S64x512x2 .f32) : FVec F S1024x128 .f32 :=
  shapeCast S1024x128 (transpose S4x2x2x64x128 [3, 0, 1, 2, 4]
    (shapeCast S2x2x64x4x128 (hostPair A B) shapeCasts_S2x2x64x512_S2x2x64x4x128)
    transposes_S2x2x64x4x128_S4x2x2x64x128_3_0_1_2_4) shapeCasts_S4x2x2x64x128_S1024x128

variable (m : (ℓ : Loc nD τ sig) → Buf (Elt F) ℓ) (ρ : Dev nD → PrngReg)

theorem V1_c (c : Dev nD) : V1 m ρ c main_v0 = hostMask (m ((c : Thread nD τ).loc main_arg6)) := by
  show StableHlo.after hostOps0 (W0 m ρ c) (Proc.devRef .tc main_v0) = _
  entry_read
  rfl
theorem V1_g (c : Dev nD) : V1 m ρ c main_v1 = hostMask (m ((c : Thread nD τ).loc main_arg0)) := by
  show StableHlo.after hostOps0 (W0 m ρ c) (Proc.devRef .tc main_v1) = _
  entry_read
  rfl
theorem V1_s (c : Dev nD) : V1 m ρ c main_v2 = hostMask (m ((c : Thread nD τ).loc main_arg4)) := by
  show StableHlo.after hostOps0 (W0 m ρ c) (Proc.devRef .tc main_v2) = _
  entry_read
  rfl
theorem V3_rows (c : Dev nD) : V3 m ρ c main_v11 = hostRows (m ((c : Thread nD τ).loc main_arg2)) (m ((c : Thread nD τ).loc main_arg3)) := by
  rw [← W2_args m ρ c main_arg2 (by decide), ← W2_args m ρ c main_arg3 (by decide)]
  show StableHlo.after hostOps1 (W2 m ρ c) (Proc.devRef .tc main_v11) = _
  entry_read
  rfl
theorem V3_slabs (c : Dev nD) : V3 m ρ c main_v15 = hostSlabs (m ((c : Thread nD τ).loc main_arg1)) (m ((c : Thread nD τ).loc main_arg5)) := by
  rw [← W2_args m ρ c main_arg1 (by decide), ← W2_args m ρ c main_arg5 (by decide)]
  show StableHlo.after hostOps1 (W2 m ρ c) (Proc.devRef .tc main_v15) = _
  entry_read
  rfl
/-- The masks' sums reach the second region untouched. -/
theorem V3_sums (c : Dev nD) : V3 m ρ c main_v3 = (dat0 (V1 m ρ) c).arrAt 3 cfg0.N :=
  (W3_of m ρ c main_v3 (by decide)).trans (W2_arr m ρ c 3)

/-- The result is the second region's one number. -/
theorem W5_result (c : Dev nD) : W5 m ρ c (Proc.devRef .tc main_v17) = shapeCast S_ ((dat1 (V3 m ρ) c).arrAt 3 cfg1.N) shapeCasts_S1x1_S_ := by
  rw [← W4_arr m ρ c 3]
  show StableHlo.after hostOps2 (W4 m ρ c) (Proc.devRef .tc main_v17) = _
  entry_read
  rfl

end AnyFloats

theorem hostMask_at (A : FVec Ideal S64x1x512x512 .f32) (r : Fin 32768) (n : Fin 512) : hostMask (F := Ideal) A (ix2 r n)
    = A (ix4 ⟨r.val / 512, by omega⟩ 0 ⟨r.val % 512, by omega⟩ n) := by
  pointwise [hostMask]

theorem hostRows_at (A B : FVec Ideal S64x512x2 .f32) (r : Fin 256) (n : Fin 512) : hostRows (F := Ideal) A B (ix2 r n)
    = if r.val / 128 < 1 then A (ix3 ⟨r.val % 64, by omega⟩ n ⟨r.val / 64 % 2, by omega⟩) else B (ix3 ⟨r.val % 64, by omega⟩ n ⟨r.val / 64 % 2, by omega⟩) := by
  pointwise [hostRows, hostPair]
  rfl
theorem hostSlabs_at (A B : FVec Ideal S64x512x2 .f32) (r : Fin 1024) (l : Fin 128) : hostSlabs (F := Ideal) A B (ix2 r l)
    = if r.val / 128 % 2 < 1 then A (ix3 ⟨r.val % 64, by omega⟩ ⟨r.val / 256 * 128 + l.val, by omega⟩ ⟨r.val / 64 % 2, by omega⟩)
      else B (ix3 ⟨r.val % 64, by omega⟩ ⟨r.val / 256 * 128 + l.val, by omega⟩ ⟨r.val / 64 % 2, by omega⟩) := by
  pointwise [hostSlabs, hostPair]
  rfl

/-- Row `64 d + b` is coordinate `d` of the first contour's batch member `b`. -/
theorem hostRows_fst (A B : FVec Ideal S64x512x2 .f32) (b : Fin 64) (d : Fin 2) (n : Fin 512) (r : Fin 256) (hr : r.val = 64 * d.val + b.val) :
    hostRows (F := Ideal) A B (ix2 r n) = A (ix3 b n d) := by
  rw [hostRows_at, if_pos (by omega)]
  exact congrArg A ((ix3_inj ..).2 ⟨Fin.ext (show r.val % 64 = b.val by omega), rfl, Fin.ext (show r.val / 64 % 2 = d.val by omega)⟩)

/-- Row `128 + 64 d + b` is coordinate `d` of the second contour's batch member `b`. -/
theorem hostRows_snd (A B : FVec Ideal S64x512x2 .f32) (b : Fin 64) (d : Fin 2) (n : Fin 512) (r : Fin 256) (hr : r.val = 128 + 64 * d.val + b.val) :
    hostRows (F := Ideal) A B (ix2 r n) = B (ix3 b n d) := by
  rw [hostRows_at, if_neg (by omega)]
  exact congrArg B ((ix3_inj ..).2 ⟨Fin.ext (show r.val % 64 = b.val by omega), rfl, Fin.ext (show r.val / 64 % 2 = d.val by omega)⟩)

/-- Slab `k`'s row `64 d + b` holds points `128 k …` of the first contour. -/
theorem hostSlabs_fst (A B : FVec Ideal S64x512x2 .f32) (b : Fin 64) (d : Fin 2) (k : Fin 4) (l : Fin 128) (r : Fin 1024)
    (hr : r.val = 256 * k.val + 64 * d.val + b.val) :
    hostSlabs (F := Ideal) A B (ix2 r l) = A (ix3 b ⟨k.val * 128 + l.val, Cert.Identity.slab_lt k l⟩ d) := by
  rw [hostSlabs_at, if_pos (by omega)]
  exact congrArg A ((ix3_inj ..).2 ⟨Fin.ext (show r.val % 64 = b.val by omega), Fin.ext (show r.val / 256 * 128 + l.val = k.val * 128 + l.val by omega),
    Fin.ext (show r.val / 64 % 2 = d.val by omega)⟩)

/-- Slab `k`'s row `128 + 64 d + b` holds points `128 k …` of the second contour. -/
theorem hostSlabs_snd (A B : FVec Ideal S64x512x2 .f32) (b : Fin 64) (d : Fin 2) (k : Fin 4) (l : Fin 128) (r : Fin 1024)
    (hr : r.val = 256 * k.val + (128 + 64 * d.val + b.val)) :
    hostSlabs (F := Ideal) A B (ix2 r l) = B (ix3 b ⟨k.val * 128 + l.val, Cert.Identity.slab_lt k l⟩ d) := by
  rw [hostSlabs_at, if_neg (by omega)]
  exact congrArg B ((ix3_inj ..).2 ⟨Fin.ext (show r.val % 64 = b.val by omega), Fin.ext (show r.val / 256 * 128 + l.val = k.val * 128 + l.val by omega),
    Fin.ext (show r.val / 64 % 2 = d.val by omega)⟩)

end Cert.KernelIdeal.Run

end
-- ==== Proof.KernelIdeal.MaskSums.lean ====
/-
# The mask sums, and the kernel's number over its arguments
-/
module

public import proofs.«01_k».proof.Proof.KernelIdeal.OutVal
public import proofs.«01_k».proof.Proof.KernelIdeal.MaskOut
public import proofs.«01_k».proof.Proof.KernelIdeal.Host

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Cert.Identity

theorem colSum0 (v0 v2 v4 : FVec Ideal S1024x512 .f32) (n : Fin 512) : k0_pay1 (F := Ideal) v0 v2 v4 (ix3 0 0 n) = ∑ r : Fin 1024, v0 (ix2 r n) := by
  pointwise [k0_pay1]
theorem colSum1 (v0 v2 v4 : FVec Ideal S1024x512 .f32) (n : Fin 512) : k0_pay1 (F := Ideal) v0 v2 v4 (ix3 0 1 n) = ∑ r : Fin 1024, v2 (ix2 r n) := by
  pointwise [k0_pay1]
theorem colSum2 (v0 v2 v4 : FVec Ideal S1024x512 .f32) (n : Fin 512) : k0_pay1 (F := Ideal) v0 v2 v4 (ix3 0 2 n) = ∑ r : Fin 1024, v4 (ix2 r n) := by
  pointwise [k0_pay1]
theorem colSum3 (v0 v2 v4 : FVec Ideal S1024x512 .f32) (n : Fin 512) : k0_pay1 (F := Ideal) v0 v2 v4 (ix3 0 3 n) = ∑ r : Fin 1024, v0 (ix2 r n) * v2 (ix2 r n) := by
  pointwise [k0_pay1]
theorem colSum4 (v0 v2 v4 : FVec Ideal S1024x512 .f32) (n : Fin 512) : k0_pay1 (F := Ideal) v0 v2 v4 (ix3 0 4 n) = ∑ r : Fin 1024, v0 (ix2 r n) * v4 (ix2 r n) := by
  pointwise [k0_pay1]

/-- Pixel `k` of a mask in row-major order. -/
def pix (A : FVec Ideal S64x1x512x512 .f32) (k : Fin 16777216) : EReal :=
  A (ix4 ⟨k.val / 262144, by omega⟩ 0 ⟨k.val / 512 % 512, by omega⟩ ⟨k.val % 512, by omega⟩)

/-- Row `r`, column `n` of block `16 i + s` is one pixel. -/
theorem rowsOf_pix (A : FVec Ideal S64x1x512x512 .f32) (i : Fin 2) (s : Fin 16) (r : Fin 1024) (n : Fin 512)
    (h : ((i.val * 16 + s.val) * 1024 + r.val) * 512 + n.val < 16777216) :
    rowsOf (hostMask (F := Ideal) A) ⟨16 * i.val + s.val, blk_lt i s⟩ (ix2 r n) = pix A ⟨((i.val * 16 + s.val) * 1024 + r.val) * 512 + n.val, h⟩ := by
  show hostMask (F := Ideal) A (ix2 ⟨1024 * (16 * i.val + s.val) + r.val, _⟩ n) = _
  rw [hostMask_at]
  unfold pix
  refine congrArg A ((ix4_inj ..).2 ⟨Fin.ext ?_, rfl, Fin.ext ?_, Fin.ext ?_⟩)
  · show (1024 * (16 * i.val + s.val) + r.val) / 512 = (((i.val * 16 + s.val) * 1024 + r.val) * 512 + n.val) / 262144
    omega
  · show (1024 * (16 * i.val + s.val) + r.val) % 512 = (((i.val * 16 + s.val) * 1024 + r.val) * 512 + n.val) / 512 % 512
    omega
  · show n.val = (((i.val * 16 + s.val) * 1024 + r.val) * 512 + n.val) % 512
    omega

section Masks

variable (C G S : FVec Ideal S64x1x512x512 .f32)

/-- The mask region's result over the masks. -/
def sums : FVec Ideal S2x8x512 .f32 := maskOut (hostMask (F := Ideal) C) (hostMask (F := Ideal) G) (hostMask (F := Ideal) S)

theorem sums_at (i : Fin 2) (q : Fin 8) (n : Fin 512) : sums C G S (ix3 i q n) = ∑ s : Fin 16, k0_pay1 (F := Ideal) (rowsOf (hostMask (F := Ideal) C) ⟨16 * i.val + s.val, blk_lt i s⟩)
    (rowsOf (hostMask (F := Ideal) G) ⟨16 * i.val + s.val, blk_lt i s⟩) (rowsOf (hostMask (F := Ideal) S) ⟨16 * i.val + s.val, blk_lt i s⟩) (ix3 0 q n) := rfl

theorem sumRow0 : sumRow (sums C G S) 0 = ∑ k : Fin 16777216, pix C k := by
  refine Eq.trans ?_ (sum_nested 2 16 1024 512 16777216 (by norm_num) (fun k => pix C k)
    (fun i s r n => rowsOf (hostMask (F := Ideal) C) ⟨16 * i.val + s.val, blk_lt i s⟩ (ix2 r n))
    (fun i s r n h => by rw [rowsOf_pix C i s r n h]))
  exact Finset.sum_congr rfl fun n _ => Finset.sum_congr rfl fun i _ => (sums_at C G S i _ n).trans <| Finset.sum_congr rfl fun s _ => colSum0 _ _ _ n

theorem sumRow1 : sumRow (sums C G S) 1 = ∑ k : Fin 16777216, pix G k := by
  refine Eq.trans ?_ (sum_nested 2 16 1024 512 16777216 (by norm_num) (fun k => pix G k)
    (fun i s r n => rowsOf (hostMask (F := Ideal) G) ⟨16 * i.val + s.val, blk_lt i s⟩ (ix2 r n))
    (fun i s r n h => by rw [rowsOf_pix G i s r n h]))
  exact Finset.sum_congr rfl fun n _ => Finset.sum_congr rfl fun i _ => (sums_at C G S i _ n).trans <| Finset.sum_congr rfl fun s _ => colSum1 _ _ _ n

theorem sumRow2 : sumRow (sums C G S) 2 = ∑ k : Fin 16777216, pix S k := by
  refine Eq.trans ?_ (sum_nested 2 16 1024 512 16777216 (by norm_num) (fun k => pix S k)
    (fun i s r n => rowsOf (hostMask (F := Ideal) S) ⟨16 * i.val + s.val, blk_lt i s⟩ (ix2 r n))
    (fun i s r n h => by rw [rowsOf_pix S i s r n h]))
  exact Finset.sum_congr rfl fun n _ => Finset.sum_congr rfl fun i _ => (sums_at C G S i _ n).trans <| Finset.sum_congr rfl fun s _ => colSum2 _ _ _ n

theorem sumRow3 : sumRow (sums C G S) 3 = ∑ k : Fin 16777216, pix C k * pix G k := by
  refine Eq.trans ?_ (sum_nested 2 16 1024 512 16777216 (by norm_num) (fun k => pix C k * pix G k)
    (fun i s r n => rowsOf (hostMask (F := Ideal) C) ⟨16 * i.val + s.val, blk_lt i s⟩ (ix2 r n) * rowsOf (hostMask (F := Ideal) G) ⟨16 * i.val + s.val, blk_lt i s⟩ (ix2 r n))
    (fun i s r n h => by rw [rowsOf_pix C i s r n h, rowsOf_pix G i s r n h]))
  exact Finset.sum_congr rfl fun n _ => Finset.sum_congr rfl fun i _ => (sums_at C G S i _ n).trans <| Finset.sum_congr rfl fun s _ => colSum3 _ _ _ n

theorem sumRow4 : sumRow (sums C G S) 4 = ∑ k : Fin 16777216, pix C k * pix S k := by
  refine Eq.trans ?_ (sum_nested 2 16 1024 512 16777216 (by norm_num) (fun k => pix C k * pix S k)
    (fun i s r n => rowsOf (hostMask (F := Ideal) C) ⟨16 * i.val + s.val, blk_lt i s⟩ (ix2 r n) * rowsOf (hostMask (F := Ideal) S) ⟨16 * i.val + s.val, blk_lt i s⟩ (ix2 r n))
    (fun i s r n h => by rw [rowsOf_pix C i s r n h, rowsOf_pix S i s r n h]))
  exact Finset.sum_congr rfl fun n _ => Finset.sum_congr rfl fun i _ => (sums_at C G S i _ n).trans <| Finset.sum_congr rfl fun s _ => colSum4 _ _ _ n

end Masks

end Cert.KernelIdeal.Run

end
-- ==== Proof.KernelIdeal.Value.lean ====
/-
# What the kernel leaves, over its arguments
-/
module

public import proofs.«01_k».proof.Proof.KernelIdeal.MaskSums

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Cert.Identity

/-- The correlation region's one grid point. -/
abbrev pt : Fin cfg1.N := ⟨0, by decide⟩

theorem idx1 : win1_0.index pt = ![0, 0] ∧ win1_1.index pt = ![0, 0] ∧ win1_2.index pt = ![0, 0, 0] ∧ win1_3.index pt = ![0, 0] := by
  decide +kernel

section Region

variable (V : (c : Dev nD) → (b : Ref sig .tc) → Buf (Elt Ideal) ((c : Thread nD τ).loc b)) (c : Dev nD)

theorem iblk1_0 : iblk1 V c 0 pt = V c main_v11 := by
  funext y
  show V c main_v11 ((win1_0.blk pt).view.emb y) = V c main_v11 y
  refine congrArg (V c main_v11) ?_
  blk_ext [idx1]
theorem iblk1_1 : iblk1 V c 1 pt = V c main_v15 := by
  funext y
  show V c main_v15 ((win1_1.blk pt).view.emb y) = V c main_v15 y
  refine congrArg (V c main_v15) ?_
  blk_ext [idx1]
theorem iblk1_2 : iblk1 V c 2 pt = V c main_v3 := by
  funext y
  show V c main_v3 ((win1_2.blk pt).view.emb y) = V c main_v3 y
  refine congrArg (V c main_v3) ?_
  blk_ext [idx1]

/-- The correlation region leaves its body's number over its three arrays. -/
theorem corr_final : (dat1 V c).arrAt 3 cfg1.N = outVal (F := Ideal) (V c main_v11) (V c main_v15) (V c main_v3) := by
  refine (dat1 V c).arrAt_eq_of_after_last 3 pt (by decide +kernel) _ fun j => ?_
  blk_simp
  rw [after1_3, outsAt1_eq, iblk1_0, iblk1_1, iblk1_2]

end Region

/-- The kernel's number over its seven arguments. -/
def kernelNum (A0 A4 A6 : FVec Ideal S64x1x512x512 .f32) (A1 A2 A3 A5 : FVec Ideal S64x512x2 .f32) : EReal :=
  Ideal.ofBits .f32 0x3F000000#32 * (1 - Ideal.div (Ideal.ofBits .f32 0x40000000#32 * (∑ k, pix A6 k * pix A0 k) + 1) (∑ k, pix A6 k + ∑ k, pix A0 k + 1)
      + (∑ b : Fin 64, viaCorr (fun d j => A2 (ix3 b j d)) (fun d j => A1 (ix3 b j d))) * Ideal.ofBits .f32 0x3C800000#32)
    + Ideal.ofBits .f32 0x3F000000#32 * (1 - Ideal.div (Ideal.ofBits .f32 0x40000000#32 * (∑ k, pix A6 k * pix A4 k) + 1) (∑ k, pix A6 k + ∑ k, pix A4 k + 1)
      + (∑ b : Fin 64, viaCorr (fun d j => A3 (ix3 b j d)) (fun d j => A5 (ix3 b j d))) * Ideal.ofBits .f32 0x3C800000#32)

theorem outVal_at (A0 A4 A6 : FVec Ideal S64x1x512x512 .f32) (A1 A2 A3 A5 : FVec Ideal S64x512x2 .f32) :
    outVal (F := Ideal) (hostRows (F := Ideal) A2 A3) (hostSlabs (F := Ideal) A1 A5) (sums A6 A0 A4) (ix2 0 0) = kernelNum A0 A4 A6 A1 A2 A3 A5 := by
  have h1 : ∑ b : Fin 64, k1_pay13 (F := Ideal) (k1_pay2 (F := Ideal) (hostRows (F := Ideal) A2 A3))
      (accEnd (F := Ideal) (hostRows (F := Ideal) A2 A3) (hostSlabs (F := Ideal) A1 A5)) (hostSlabs (F := Ideal) A1 A5) (ix2 b 0)
      = ∑ b : Fin 64, viaCorr (fun d j => A2 (ix3 b j d)) (fun d j => A1 (ix3 b j d)) :=
    Finset.sum_congr rfl fun b _ => pay13_viaCorr _ _ _ _ b
      (fun d n q h => hostRows_fst A2 A3 b d n q (by omega)) (fun d k l q h => hostSlabs_fst A1 A5 b d k l q (by omega))
  have h2 : ∑ b : Fin 64, k1_pay14 (F := Ideal) (k1_pay2 (F := Ideal) (hostRows (F := Ideal) A2 A3))
      (accEnd (F := Ideal) (hostRows (F := Ideal) A2 A3) (hostSlabs (F := Ideal) A1 A5)) (hostSlabs (F := Ideal) A1 A5) (ix2 b 0) * k1_pay15 (F := Ideal) (ix2 b 0)
      = ∑ b : Fin 64, viaCorr (fun d j => A3 (ix3 b j d)) (fun d j => A5 (ix3 b j d)) :=
    Finset.sum_congr rfl fun b _ => pay14_viaCorr _ _ _ _ b
      (fun d n q h => hostRows_snd A2 A3 b d n q (by omega)) (fun d k l q h => hostSlabs_snd A1 A5 b d k l q (by omega))
  unfold outVal kernelNum
  rw [pay1_at, pay16_at, pay17_at, pay19_at, pay20_at, pay21_at, pay22_at, pay23_at, sumRow0, sumRow1, sumRow2, sumRow3, sumRow4, h1, h2]

variable (m : (ℓ : Loc nD τ sig) → Buf (Elt Ideal) ℓ) (ρ : Dev nD → PrngReg)

/-- The kernel's result buffer holds its number. -/
theorem result_eq (c : Dev nD) : W5 m ρ c (Proc.devRef .tc main_v17) = fun _ => kernelNum
    (m ((c : Thread nD τ).loc main_arg0)) (m ((c : Thread nD τ).loc main_arg4)) (m ((c : Thread nD τ).loc main_arg6))
    (m ((c : Thread nD τ).loc main_arg1)) (m ((c : Thread nD τ).loc main_arg2)) (m ((c : Thread nD τ).loc main_arg3)) (m ((c : Thread nD τ).loc main_arg5)) := by
  rw [W5_result, corr_final, V3_rows, V3_slabs, V3_sums, mask_final, V1_c, V1_g, V1_s]
  funext j
  refine Eq.trans ?_ (outVal_at _ _ _ _ _ _ _)
  have e : ∀ X : FVec Ideal S1x1 .f32, shapeCast S_ X shapeCasts_S1x1_S_ j = X (ix2 0 0) := by
    intro X
    rw [← ix0_eta j]
    pointwise []
  exact e _

end Cert.KernelIdeal.Run

end
-- ==== Proof.ReferenceIdeal.Lag.lean ====
/-
# The reference's rotated contour, entry by entry
-/
module

public import proofs.«01_k».proof.Proof.Gen.ReferenceIdeal.Run
public import Idealize.ShloMosaic.Lib.Pointwise

@[expose] public section

set_option maxRecDepth 16384

noncomputable section

namespace Cert.ReferenceIdeal.Terms

open Cert.ReferenceIdeal Cert.ReferenceIdeal.Gen
open Idealize.ShloMosaic Idealize.ShloMosaic.TcCoe
open Idealize.SL.Sem

/-- The modulus 512 as the reference spells it (guarded against zero). -/
def modulus : IVec S_ 32 :=
  select (cmpi .eq (id (constantI S_ 32 512#32)) (constantI S_ 32 0#32)) (constantI S_ 32 1#32) (id (constantI S_ 32 512#32))

/-- The truncated remainder of `j - s` by 512, at row `s`, column `j`. -/
def rawRem : IVec S512x512 32 :=
  Host.remsi (subi (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0)))) (broadcastInDim S512x512 ![] bcast_S_S512x512 modulus)

/-- The remainder brought to the modulus's sign. -/
def floorRem : IVec S512x512 32 :=
  select (andi (cmpi .ne (cmpi .slt rawRem (broadcastInDim S512x512 ![] bcast_S_S512x512 (constantI S_ 32 0#32))) (broadcastInDim S512x512 ![] bcast_S_S512x512 (cmpi .slt modulus (constantI S_ 32 0#32)))) (cmpi .ne rawRem (broadcastInDim S512x512 ![] bcast_S_S512x512 (constantI S_ 32 0#32)))) (addi rawRem (broadcastInDim S512x512 ![] bcast_S_S512x512 modulus)) rawRem

/-- The positions the reference gathers. -/
def positions : IVec S512x512x1 32 :=
  broadcastInDim S512x512x1 ![0, 1] bcast_S512x512_S512x512x1_0_1 (select (cmpi .slt floorRem (broadcastInDim S512x512 ![] bcast_S_S512x512 (constantI S_ 32 0#32))) (addi floorRem (broadcastInDim S512x512 ![] bcast_S_S512x512 (constantI S_ 32 512#32))) floorRem)

/-- What the reference does to one difference `d` of positions. -/
def wrap (d : BitVec 32) : BitVec 32 :=
  let n := Scalar.select (IntOp.cmpi .eq 512#32 0#32) 1#32 512#32
  let r := IntOp.remsi .host d n
  let f := Scalar.select (IntOp.andi (IntOp.cmpi .ne (IntOp.cmpi .slt r 0#32) (IntOp.cmpi .slt n 0#32)) (IntOp.cmpi .ne r 0#32)) (IntOp.addi r n) r
  Scalar.select (IntOp.cmpi .slt f 0#32) (IntOp.addi f 512#32) f

theorem positions_wrap (s j : Fin 512) : positions (ix3 s j 0) = wrap (IntOp.subi (BitVec.ofNat 32 j) (BitVec.ofNat 32 s)) := by
  pointwise [positions, floorRem, rawRem, modulus]
  rfl

/-- Every difference of two positions comes back into `0 … 511`. -/
theorem wrap_all : ∀ k : Fin 1023, (wrap (BitVec.ofNat 32 (k.val + 4294966785))).toInt.toNat = (k.val + 1) % 512 := by
  decide +kernel

/-- The position gathered at row `s`, column `j` is `(j - s) mod 512`. -/
theorem positions_at (s j : Fin 512) : (positions (ix3 s j 0)).toInt.toNat = (j.val + 512 - s.val) % 512 := by
  have e : IntOp.subi (BitVec.ofNat 32 j) (BitVec.ofNat 32 s) = BitVec.ofNat 32 (j.val + 511 - s.val + 4294966785) := by
    show BitVec.ofNat 32 j.val - BitVec.ofNat 32 s.val = _
    apply BitVec.eq_of_toNat_eq
    simp only [BitVec.toNat_sub, BitVec.toNat_ofNat]
    omega
  rw [positions_wrap, e, wrap_all ⟨j.val + 511 - s.val, by omega⟩]
  show (j.val + 511 - s.val + 1) % 512 = _
  congr 1
  omega

/-- One entry of the gather: contour point `positions s j`, clamped to the contour. -/
theorem gather_at (x : FVec Ideal S64x512x2 .f32) (idx : IVec S512x512x1 32) (b : Fin 64) (s j : Fin 512) (c : Fin 2) :
    Host.gather gather_S64x512x2_S512x512x1_S64x512x512x2_03_1_n_n_1_2_6412 x idx (ix4 b s j c)
      = x (ix3 b ⟨min (idx (ix3 s j 0)).toInt.toNat 511, by omega⟩ c) := by
  unfold Host.gather
  refine congrArg x ?_
  funext a
  refine Fin.ext ?_
  show GatherDims.start _ _ idx a + GatherDims.batchCoord _ _ a + GatherDims.offCoord _ _ a = _
  rw [GatherDims.batchCoord_eq_zero _ _ _ (fun h => by cases h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬ (0 : Fin 3) ∈ GatherDims.startIndexMap gather_S64x512x2_S512x512x1_S64x512x512x2_03_1_n_n_1_2_6412 from fun h => absurd (List.mem_singleton.mp h) (by decide)),
      dif_pos ((GatherDims.mem_sKept _ _).mpr ⟨fun h => absurd (List.mem_singleton.mp h) (by decide), fun h => by cases h⟩)]
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 3) ∈ GatherDims.startIndexMap gather_S64x512x2_S512x512x1_S64x512x512x2_03_1_n_n_1_2_6412 from List.mem_singleton.mpr rfl)]
    have hsi : GatherDims.siIdx gather_S64x512x2_S512x512x1_S64x512x512x2_03_1_n_n_1_2_6412 (ix4 b s j c) ⟨List.idxOf (1 : Fin 3) (GatherDims.startIndexMap gather_S64x512x2_S512x512x1_S64x512x512x2_03_1_n_n_1_2_6412),
        List.idxOf_lt_length_iff.2 (List.mem_singleton.mpr rfl)⟩ = ix3 s j 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show ¬ (2 : Fin 3) ∈ GatherDims.startIndexMap gather_S64x512x2_S512x512x1_S64x512x512x2_03_1_n_n_1_2_6412 from fun h => absurd (List.mem_singleton.mp h) (by decide)),
      dif_pos ((GatherDims.mem_sKept _ _).mpr ⟨fun h => absurd (List.mem_singleton.mp h) (by decide), fun h => by cases h⟩)]
    rw [Nat.zero_add]
    rfl

end Cert.ReferenceIdeal.Terms

end
-- ==== Proof.ReferenceIdeal.Value.lean ====
/-
# The reference's number, as sums over plain indices
-/
module

public import proofs.«01_k».proof.Proof.ReferenceIdeal.Lag

@[expose] public section

set_option maxRecDepth 16384

noncomputable section

namespace Cert.ReferenceIdeal.Terms

open Cert.ReferenceIdeal Cert.ReferenceIdeal.Gen
open Idealize.ShloMosaic Idealize.ShloMosaic.TcCoe
open Idealize.SL.Sem

section AnyFloats

variable {F : FTy → Type} [FloatOps F]

/-- The sum of a flattened mask. -/
def flatSum (X : FVec F S16777216 .f32) : FVec F S_ .f32 :=
  Host.reduceAdd X (constant S_ .f32 0x00000000#32) reducesTo_S16777216_S_d0 h_S_

/-- A mask flattened. -/
def flat (A : FVec F S64x1x512x512 .f32) : FVec F S16777216 .f32 := shapeCast S16777216 A shapeCasts_S64x1x512x512_S16777216

/-- One dice loss from its three sums: `1 - (2 ab + 1) / (a + b + 1)`. -/
def diceOf (ab a b : FVec F S_ .f32) : FVec F S_ .f32 :=
  subf (constant S_ .f32 0x3F800000#32) (Host.divf (addf (mulf (constant S_ .f32 0x40000000#32) ab) (constant S_ .f32 0x3F800000#32)) (addf (addf a b) (constant S_ .f32 0x3F800000#32)))

/-- The differences of a contour and the other one rotated by every lag. -/
def gaps (P R : FVec F S64x512x2 .f32) : FVec F S64x512x512x2 .f32 :=
  subf (broadcastInDim S64x512x512x2 ![0, 1, 2, 3] bcast_S64x1x512x2_S64x512x512x2_0_1_2_3 (broadcastInDim S64x1x512x2 ![0, 2, 3] bcast_S64x512x2_S64x1x512x2_0_2_3 P)) (Host.gather gather_S64x512x2_S512x512x1_S64x512x512x2_03_1_n_n_1_2_6412 R positions)

/-- The mean over the batch of the least mean square over the lags. -/
def shapeLoss (P R : FVec F S64x512x2 .f32) : FVec F S_ .f32 :=
  Host.divf (Host.reduceAdd (Host.reduce FloatOps.minimumf (Host.divf (Host.reduceAdd (mulf (gaps P R) (gaps P R)) (constant S_ .f32 0x00000000#32) reducesTo_S64x512x512x2_S64x512_d2_3 h_S_) (broadcastInDim S64x512 ![] bcast_S_S64x512 (constant S_ .f32 0x44800000#32))) (constant S_ .f32 0x7F800000#32) reducesTo_S64x512_S64_d1 h_S_) (constant S_ .f32 0x00000000#32) reducesTo_S64_S_d0 h_S_) (constant S_ .f32 0x42800000#32)

/-- Half of the two dice losses and the two shape losses. -/
def halves (d1 s1 d2 s2 : FVec F S_ .f32) : FVec F S_ .f32 :=
  addf (mulf (constant S_ .f32 0x3F000000#32) (addf d1 s1)) (mulf (constant S_ .f32 0x3F000000#32) (addf d2 s2))

/-- The reference's number over its seven arguments. -/
def total (A0 A4 A6 : FVec F S64x1x512x512 .f32) (A1 A2 A3 A5 : FVec F S64x512x2 .f32) : FVec F S_ .f32 :=
  halves (diceOf (flatSum (mulf (flat A6) (flat A0))) (flatSum (flat A6)) (flatSum (flat A0))) (shapeLoss A2 A1)
    (diceOf (flatSum (mulf (flat A6) (flat A4))) (flatSum (flat A6)) (flatSum (flat A4))) (shapeLoss A3 A5)

/-- The reference's run leaves `total` of its arguments. -/
theorem res_eq (m : (ℓ : Loc nD τ sig) → Buf (Elt F) ℓ) (c : Dev nD) :
    Value.res_main_v78 m c = total (m ((c.tc : Thread nD τ).loc main_arg0)) (m ((c.tc : Thread nD τ).loc main_arg4)) (m ((c.tc : Thread nD τ).loc main_arg6))
      (m ((c.tc : Thread nD τ).loc main_arg1)) (m ((c.tc : Thread nD τ).loc main_arg2)) (m ((c.tc : Thread nD τ).loc main_arg3)) (m ((c.tc : Thread nD τ).loc main_arg5)) := by
  rfl

end AnyFloats

theorem flatSum_at (X : FVec Ideal S16777216 .f32) : flatSum (F := Ideal) X ix0 = ∑ k : Fin 16777216, X (ix1 k) := by
  pointwise [flatSum]

theorem flat_at (A : FVec Ideal S64x1x512x512 .f32) (k : Fin 16777216) : flat (F := Ideal) A (ix1 k)
    = A (ix4 ⟨k.val / 262144, by omega⟩ 0 ⟨k.val / 512 % 512, by omega⟩ ⟨k.val % 512, by omega⟩) := by
  pointwise [flat]

theorem diceOf_at (ab a b : FVec Ideal S_ .f32) : diceOf (F := Ideal) ab a b ix0
    = 1 - Ideal.div (Ideal.ofBits .f32 0x40000000#32 * ab ix0 + 1) (a ix0 + b ix0 + 1) := by
  pointwise [diceOf]

theorem halves_at (d1 s1 d2 s2 : FVec Ideal S_ .f32) : halves (F := Ideal) d1 s1 d2 s2 ix0
    = Ideal.ofBits .f32 0x3F000000#32 * (d1 ix0 + s1 ix0) + Ideal.ofBits .f32 0x3F000000#32 * (d2 ix0 + s2 ix0) := by
  pointwise [halves]

/-- One difference: point `j` against point `(j - s) mod 512` of the other contour. -/
theorem gaps_at (P R : FVec Ideal S64x512x2 .f32) (b : Fin 64) (s j : Fin 512) (c : Fin 2) :
    gaps (F := Ideal) P R (ix4 b s j c) = P (ix3 b j c) - R (ix3 b ⟨(j.val + 512 - s.val) % 512, Nat.mod_lt _ (by decide)⟩ c) := by
  pointwise [gaps]
  rw [gather_at]
  refine congrArg (fun k => P (ix3 b j c) - R (ix3 b k c)) (Fin.ext ?_)
  show min (positions (ix3 s j 0)).toInt.toNat 511 = (j.val + 512 - s.val) % 512
  rw [positions_at]
  omega

/-- The reference's shape loss as a number. -/
theorem shapeLoss_at (P R : FVec Ideal S64x512x2 .f32) : shapeLoss (F := Ideal) P R ix0
    = Ideal.div (∑ b : Fin 64, Finset.univ.fold min (Ideal.ofBits .f32 0x7F800000#32) fun s : Fin 512 =>
        Ideal.div (∑ j : Fin 512, ∑ c : Fin 2, gaps (F := Ideal) P R (ix4 b s j c) * gaps (F := Ideal) P R (ix4 b s j c)) (Ideal.ofBits .f32 0x44800000#32))
      (Ideal.ofBits .f32 0x42800000#32) := by
  pointwise [shapeLoss]

end Cert.ReferenceIdeal.Terms

end
-- ==== Proof.Agree.lean ====
/-
# The reference's number is the kernel's

The two differ in the shape losses only: the reference takes each lag's mean squared distance directly, the kernel from
correlations; for finite contours these are the same (`Identity`). Means over the batch are a division by 64 on one side, a
multiplication by 1/64 on the other.
-/
module

public import proofs.«01_k».proof.Proof.KernelIdeal.Value
public import proofs.«01_k».proof.Proof.ReferenceIdeal.Value

@[expose] public section

noncomputable section

namespace Cert.Agree

open Cert.KernelIdeal Cert.KernelIdeal.Run Cert.ReferenceIdeal.Terms
open Idealize.ShloMosaic
open Cert.Identity

/-- One shape loss: the reference's is the mean over the batch of the kernel's. -/
theorem shapeLoss_eq (P R : FVec Ideal S64x512x2 .f32) (hP : ∀ i, ∃ r : ℝ, P i = (r : EReal)) (hR : ∀ i, ∃ r : ℝ, R i = (r : EReal)) :
    shapeLoss (F := Ideal) P R ix0
      = (∑ b : Fin 64, viaCorr (fun d j => P (ix3 b j d)) (fun d j => R (ix3 b j d))) * Ideal.ofBits .f32 0x3C800000#32 := by
  choose p hp using hP
  choose r hr using hR
  rw [shapeLoss_at, lit_64, lit_inv64, Ideal.div_coe (by norm_num : (64 : ℝ) ≠ 0)]
  have e : ∀ b : Fin 64, (Finset.univ.fold min (Ideal.ofBits .f32 0x7F800000#32) fun s : Fin 512 =>
      Ideal.div (∑ j : Fin 512, ∑ c : Fin 2, gaps (F := Ideal) P R (ix4 b s j c) * gaps (F := Ideal) P R (ix4 b s j c)) (Ideal.ofBits .f32 0x44800000#32))
      = viaCorr (fun d j => P (ix3 b j d)) (fun d j => R (ix3 b j d)) := by
    intro b
    simp only [gaps_at, hp, hr]
    exact (viaCorr_eq_viaLags (fun d j => p (ix3 b j d)) (fun d j => r (ix3 b j d))).symm
  rw [Finset.sum_congr rfl fun b _ => e b]

/-- The sum over a flattened mask array is the sum over its pixels. -/
theorem sum_flat (A : FVec Ideal S64x1x512x512 .f32) : flatSum (F := Ideal) (flat A) ix0 = ∑ k, pix A k := by
  rw [flatSum_at]
  exact Finset.sum_congr rfl fun k _ => flat_at A k

/-- A product of two flat arrays, at one place. -/
theorem mulf_at (X Y : FVec Ideal Cert.ReferenceIdeal.S16777216 .f32) (i : Cert.ReferenceIdeal.S16777216.Idx) :
    mulf (F := Ideal) X Y i = (X i * Y i : EReal) := rfl

/-- The sum over the product of two flattened mask arrays is the sum over the products of their pixels. -/
theorem sum_flat_mul (A B : FVec Ideal S64x1x512x512 .f32) :
    flatSum (F := Ideal) (mulf (flat A) (flat B)) ix0 = ∑ k, pix A k * pix B k := by
  rw [flatSum_at]
  exact Finset.sum_congr rfl fun k _ => (mulf_at _ _ _).trans (congrArg₂ (fun x y : EReal => x * y) (flat_at A k) (flat_at B k))

/-- For finite contours the reference's number is the kernel's. -/
theorem total_eq (A0 A4 A6 : FVec Ideal S64x1x512x512 .f32) (A1 A2 A3 A5 : FVec Ideal S64x512x2 .f32)
    (h1 : ∀ i, ∃ r : ℝ, A1 i = (r : EReal)) (h2 : ∀ i, ∃ r : ℝ, A2 i = (r : EReal))
    (h3 : ∀ i, ∃ r : ℝ, A3 i = (r : EReal)) (h5 : ∀ i, ∃ r : ℝ, A5 i = (r : EReal)) :
    total (F := Ideal) A0 A4 A6 A1 A2 A3 A5 = fun _ => kernelNum A0 A4 A6 A1 A2 A3 A5 := by
  funext i
  rw [← ix0_eta i, total, halves_at, diceOf_at, diceOf_at, sum_flat_mul, sum_flat_mul, sum_flat, sum_flat, sum_flat,
    shapeLoss_eq A2 A1 h2 h1, shapeLoss_eq A3 A5 h3 h5, kernelNum]

end Cert.Agree

end
-- ==== Proof.lean ====
/-
# The claim
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_contours_finite
public import proofs.«01_k».proof.Proof.Gen.ReferenceIdeal.Run
public import proofs.«01_k».proof.Proof.Kernel.Run
public import proofs.«01_k».proof.Proof.KernelIdeal.Run
public import proofs.«01_k».proof.Proof.Finite
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- Every execution of the kernel terminates without fault, leaves the arguments unchanged and every semaphore counter at zero. -/
theorem kernel_frame : Cert.quiescent_Kernel := fun m g _ =>
  (θ_run _ _ _).mono (fun _ h => ⟨fun c => (h.1 c).2, h.2⟩) (Cert.Kernel.Run.run_main m g)

/-- The same of the idealized kernel, whatever the memory it starts from. -/
theorem ideal_frame : Cert.quiescent_KernelIdeal := fun m g _ =>
  (θ_run _ _ _).mono (fun _ h => ⟨fun c => (h.1 c).2, h.2⟩) (Cert.KernelIdeal.Run.run_main m g)

/-- The same of the reference. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- From finite contours and equal arguments, the idealized kernel and the reference end with the same loss. -/
theorem same_loss : Cert.algebraic_KernelIdeal_ReferenceIdeal_pre_contours_finite := by
  intro m g m' g' hpre hagree
  refine ⟨fun c => Cert.KernelIdeal.Run.W5 m g c (Proc.devRef .tc Cert.KernelIdeal.main_v17),
    (θ_run _ _ _).mono (fun _ h => h.1) (Cert.KernelIdeal.Run.run_main m g),
    (θ_run _ _ _).mono (fun r h c => ⟨(h c).1.trans ?_, (h c).2⟩) (Cert.ReferenceIdeal.Value.run m' g')⟩
  obtain ⟨a0, a1, a2, a3, a4, a5, a6⟩ := hagree c
  obtain ⟨h1, h2, h3, h5⟩ := Cert.Pre_contours_finite.Reading.reals _ _ _ _ _ _ _ (hpre c)
  rw [Cert.ReferenceIdeal.Terms.res_eq, a0, a1, a2, a3, a4, a5, a6]
  exact (Cert.Agree.total_eq _ _ _ _ _ _ _ h1 h2 h3 h5).trans (Cert.KernelIdeal.Run.result_eq m g c).symm

/-- All claims together; the idealization rewrote nothing. -/
theorem claim : Cert.Claim :=
  ⟨Cert.Kernel.Gen.facts, Cert.KernelIdeal.Gen.facts, Cert.ReferenceIdeal.Gen.facts, Cert.Pre_contours_finite.Gen.facts,
    kernel_frame, ideal_frame, fun m g _ => ideal_frame m g trivial, reference_frame, fun m g _ => reference_frame m g trivial,
    trivial, same_loss⟩

end Cert.Proof

end
